-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![8, 1024, 16, 128]⟩ ⟨4, ![8, 4096, 16, 128]⟩ (Layout.meshBlock [2, 2, 4] ![[], [2], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![8, 1024, 16, 128]⟩ ⟨4, ![8, 4096, 16, 128]⟩ (Layout.meshBlock [2, 2, 4] ![[], [2], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S8x8x16x128 : Shape := ⟨4, ![8, 8, 16, 128]⟩
abbrev S8x1024x16x128 : Shape := ⟨4, ![8, 1024, 16, 128]⟩
abbrev S_ : Shape := ⟨0, ![]⟩

class Facts : Prop where
  bcast_S_S8x8x16x128 : S_.BroadcastsInDim S8x8x16x128 (![] : Fin 0 → Fin S8x8x16x128.rank)
  bcast_S_S8x1024x16x128 : S_.BroadcastsInDim S8x1024x16x128 (![] : Fin 0 → Fin S8x1024x16x128.rank)

variable [Facts]

def fn {F : FTy → Type} [FloatOps F] (main_arg0 : FVec F S8x8x16x128 .f32) (main_arg1 : FVec F S8x1024x16x128 .f32) (main_arg2 : FVec F S8x1024x16x128 .f32) : IVec S8x8x16x128 1 × IVec S8x1024x16x128 1 :=
  let main_cst : FVec F S_ .f32 := constant S_ .f32 0xFF800000#32
  let main_v0 : FVec F S8x8x16x128 .f32 := broadcastInDim S8x8x16x128 ![] bcast_S_S8x8x16x128 main_cst
  let main_v1 : IVec S8x8x16x128 1 := cmpf .ogt main_arg0 main_v0
  let main_cst_0 : FVec F S_ .f32 := constant S_ .f32 0x7F800000#32
  let main_v2 : FVec F S8x8x16x128 .f32 := broadcastInDim S8x8x16x128 ![] bcast_S_S8x8x16x128 main_cst_0
  let main_v3 : IVec S8x8x16x128 1 := cmpf .olt main_arg0 main_v2
  let main_v4 : IVec S8x8x16x128 1 := andi main_v1 main_v3
  let main_cst_1 : FVec F S_ .f32 := constant S_ .f32 0xFF800000#32
  let main_v5 : FVec F S8x1024x16x128 .f32 := broadcastInDim S8x1024x16x128 ![] bcast_S_S8x1024x16x128 main_cst_1
  let main_v6 : IVec S8x1024x16x128 1 := cmpf .ogt main_arg1 main_v5
  let main_cst_2 : FVec F S_ .f32 := constant S_ .f32 0x7F800000#32
  let main_v7 : FVec F S8x1024x16x128 .f32 := broadcastInDim S8x1024x16x128 ![] bcast_S_S8x1024x16x128 main_cst_2
  let main_v8 : IVec S8x1024x16x128 1 := cmpf .olt main_arg1 main_v7
  let main_v9 : IVec S8x1024x16x128 1 := andi main_v6 main_v8
  (main_v4, main_v9)
-- ==== Pre_finite_ReferenceIdeal.lean ====
abbrev S8x8x16x128 : Shape := ⟨4, ![8, 8, 16, 128]⟩
abbrev S8x4096x16x128 : Shape := ⟨4, ![8, 4096, 16, 128]⟩
abbrev S_ : Shape := ⟨0, ![]⟩

class Facts : Prop where
  bcast_S_S8x8x16x128 : S_.BroadcastsInDim S8x8x16x128 (![] : Fin 0 → Fin S8x8x16x128.rank)
  bcast_S_S8x4096x16x128 : S_.BroadcastsInDim S8x4096x16x128 (![] : Fin 0 → Fin S8x4096x16x128.rank)

variable [Facts]

def fn {F : FTy → Type} [FloatOps F] (main_arg0 : FVec F S8x8x16x128 .f32) (main_arg1 : FVec F S8x4096x16x128 .f32) (main_arg2 : FVec F S8x4096x16x128 .f32) : IVec S8x8x16x128 1 × IVec S8x4096x16x128 1 :=
  let main_cst : FVec F S_ .f32 := constant S_ .f32 0xFF800000#32
  let main_v0 : FVec F S8x8x16x128 .f32 := broadcastInDim S8x8x16x128 ![] bcast_S_S8x8x16x128 main_cst
  let main_v1 : IVec S8x8x16x128 1 := cmpf .ogt main_arg0 main_v0
  let main_cst_0 : FVec F S_ .f32 := constant S_ .f32 0x7F800000#32
  let main_v2 : FVec F S8x8x16x128 .f32 := broadcastInDim S8x8x16x128 ![] bcast_S_S8x8x16x128 main_cst_0
  let main_v3 : IVec S8x8x16x128 1 := cmpf .olt main_arg0 main_v2
  let main_v4 : IVec S8x8x16x128 1 := andi main_v1 main_v3
  let main_cst_1 : FVec F S_ .f32 := constant S_ .f32 0xFF800000#32
  let main_v5 : FVec F S8x4096x16x128 .f32 := broadcastInDim S8x4096x16x128 ![] bcast_S_S8x4096x16x128 main_cst_1
  let main_v6 : IVec S8x4096x16x128 1 := cmpf .ogt main_arg1 main_v5
  let main_cst_2 : FVec F S_ .f32 := constant S_ .f32 0x7F800000#32
  let main_v7 : FVec F S8x4096x16x128 .f32 := broadcastInDim S8x4096x16x128 ![] bcast_S_S8x4096x16x128 main_cst_2
  let main_v8 : IVec S8x4096x16x128 1 := cmpf .olt main_arg1 main_v7
  let main_v9 : IVec S8x4096x16x128 1 := andi main_v6 main_v8
  (main_v4, main_v9)
-- ==== Kernel.lean ====
abbrev S8x8x16x128 : Shape := ⟨4, ![8, 8, 16, 128]⟩
abbrev S8x1024x16x128 : Shape := ⟨4, ![8, 1024, 16, 128]⟩
abbrev S8x8x2048 : Shape := ⟨3, ![8, 8, 2048]⟩
abbrev S8x1024x2048 : Shape := ⟨3, ![8, 1024, 2048]⟩
abbrev S8x16x8 : Shape := ⟨3, ![8, 16, 8]⟩
abbrev S1x8x2048 : Shape := ⟨3, ![1, 8, 2048]⟩
abbrev S1x1024x2048 : Shape := ⟨3, ![1, 1024, 2048]⟩
abbrev S1x16x8 : Shape := ⟨3, ![1, 16, 8]⟩
abbrev S8x2048 : Shape := ⟨2, ![8, 2048]⟩
abbrev S8x128 : Shape := ⟨2, ![8, 128]⟩
abbrev S1024x2048 : Shape := ⟨2, ![1024, 2048]⟩
abbrev S1024x128 : Shape := ⟨2, ![1024, 128]⟩
abbrev S8x1024 : Shape := ⟨2, ![8, 1024]⟩
abbrev S1x1x8 : Shape := ⟨3, ![1, 1, 8]⟩
abbrev S8 : Shape := ⟨1, ![8]⟩
abbrev S1x8x128 : Shape := ⟨3, ![1, 8, 128]⟩
abbrev S4x8x8x2048 : Shape := ⟨4, ![4, 8, 8, 2048]⟩
abbrev S4x8x16x8 : Shape := ⟨4, ![4, 8, 16, 8]⟩
abbrev S3 : Shape := ⟨1, ![3]⟩
abbrev S_ : Shape := ⟨0, ![]⟩
abbrev S1x8x8x2048 : Shape := ⟨4, ![1, 8, 8, 2048]⟩
abbrev S1x8x16x8 : Shape := ⟨4, ![1, 8, 16, 8]⟩
abbrev S1 : Shape := ⟨1, ![1]⟩
abbrev S8x8x128 : Shape := ⟨3, ![8, 8, 128]⟩
abbrev S8x1x8 : Shape := ⟨3, ![8, 1, 8]⟩
abbrev S8x8 : Shape := ⟨2, ![8, 8]⟩
abbrev S8x8x1 : Shape := ⟨3, ![8, 8, 1]⟩

abbrev nBuf : Space → Nat
  | .hbm => 10
  | .vmem => 16
  | .smem => 0
  | _ => 0

abbrev bufTy : (tb : Table) → Fin (tcTables nBuf tb) → BufTy
  | .hbm, ⟨0, _⟩ => ⟨S8x8x16x128, .f32⟩
  | .hbm, ⟨1, _⟩ => ⟨S8x1024x16x128, .f32⟩
  | .hbm, ⟨2, _⟩ => ⟨S8x1024x16x128, .f32⟩
  | .hbm, ⟨3, _⟩ => ⟨S8x8x2048, .f32⟩
  | .hbm, ⟨4, _⟩ => ⟨S8x1024x2048, .f32⟩
  | .hbm, ⟨5, _⟩ => ⟨S8x1024x2048, .f32⟩
  | .hbm, ⟨6, _⟩ => ⟨S8x8x2048, .f32⟩
  | .hbm, ⟨7, _⟩ => ⟨S8x16x8, .f32⟩
  | .hbm, ⟨8, _⟩ => ⟨S8x8x2048, .f32⟩
  | .hbm, ⟨9, _⟩ => ⟨S8x8x16x128, .f32⟩
  | .local _ .vmem, ⟨0, _⟩ => ⟨S1x8x2048, .f32⟩
  | .local _ .vmem, ⟨1, _⟩ => ⟨S1x8x2048, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1024x2048, .f32⟩
  | .local _ .vmem, ⟨5, _⟩ => ⟨S1x1024x2048, .f32⟩
  | .local _ .vmem, ⟨6, _⟩ => ⟨S1x8x2048, .f32⟩
  | .local _ .vmem, ⟨7, _⟩ => ⟨S1x8x2048, .f32⟩
  | .local _ .vmem, ⟨8, _⟩ => ⟨S1x16x8, .f32⟩
  | .local _ .vmem, ⟨9, _⟩ => ⟨S1x16x8, .f32⟩
  | .local _ .vmem, ⟨10, _⟩ => ⟨S8x8x2048, .f32⟩
  | .local _ .vmem, ⟨11, _⟩ => ⟨S8x16x8, .f32⟩
  | .local _ .vmem, ⟨12, _⟩ => ⟨S8x8x2048, .f32⟩
  | .local _ .vmem, ⟨13, _⟩ => ⟨S8x16x8, .f32⟩
  | .local _ .vmem, ⟨14, _⟩ => ⟨S4x8x8x2048, .f32⟩
  | .local _ .vmem, ⟨15, _⟩ => ⟨S4x8x16x8, .f32⟩
  | _, _ => ⟨S8x8x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 1 25 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem1_0 : DmaSem sig := 11
abbrev cc1_sem2_0 : DmaSem sig := 12
abbrev barrier0 : Sem sig := 0

abbrev nD : Nat := 16
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := .none

def k1_dev1 (d0 : Dev nD) : Nat :=
  let c0_i32_17 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_16 : BitVec 32 := 8#32
  let v32 : BitVec 32 := Scalar.muli v2 c8_i32_16
  let v33 : BitVec 32 := Scalar.addi c0_i32_17 v32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_18 : BitVec 32 := 4#32
  let v34 : BitVec 32 := Scalar.muli v5 c4_i32_18
  let v35 : BitVec 32 := Scalar.addi v33 v34
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.subi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_19 : BitVec 32 := 1#32
  let v36 : BitVec 32 := Scalar.muli v19 c1_i32_19
  let v37 : BitVec 32 := Scalar.addi v35 v36
  v37.toNat
def k1_dev2 (d0 : Dev nD) : Nat :=
  let c0_i32_22 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_21 : BitVec 32 := 8#32
  let v38 : BitVec 32 := Scalar.muli v2 c8_i32_21
  let v39 : BitVec 32 := Scalar.addi c0_i32_22 v38
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_23 : BitVec 32 := 4#32
  let v40 : BitVec 32 := Scalar.muli v5 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_24 : BitVec 32 := 1#32
  let v42 : BitVec 32 := Scalar.muli v30 c1_i32_24
  let v43 : BitVec 32 := Scalar.addi v41 v42
  v43.toNat
def k1_dev3 (d0 : Dev nD) : Nat :=
  let c0_i32_56 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_55 : BitVec 32 := 8#32
  let v62 : BitVec 32 := Scalar.muli v2 c8_i32_55
  let v63 : BitVec 32 := Scalar.addi c0_i32_56 v62
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_57 : BitVec 32 := 4#32
  let v64 : BitVec 32 := Scalar.muli v5 c4_i32_57
  let v65 : BitVec 32 := Scalar.addi v63 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_58 : BitVec 32 := 1#32
  let v66 : BitVec 32 := Scalar.muli v30 c1_i32_58
  let v67 : BitVec 32 := Scalar.addi v65 v66
  v67.toNat
def k1_dev4 (d0 : Dev nD) : Nat :=
  let c0_i32_70 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_69 : BitVec 32 := 8#32
  let v76 : BitVec 32 := Scalar.muli v2 c8_i32_69
  let v77 : BitVec 32 := Scalar.addi c0_i32_70 v76
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_71 : BitVec 32 := 4#32
  let v78 : BitVec 32 := Scalar.muli v5 c4_i32_71
  let v79 : BitVec 32 := Scalar.addi v77 v78
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_72 : BitVec 32 := 1#32
  let v80 : BitVec 32 := Scalar.muli v30 c1_i32_72
  let v81 : BitVec 32 := Scalar.addi v79 v80
  v81.toNat
def k1_dev5 (d0 : Dev nD) : Nat :=
  let c0_i32_153 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_152 : BitVec 32 := 8#32
  let v139 : BitVec 32 := Scalar.muli v2 c8_i32_152
  let v140 : BitVec 32 := Scalar.addi c0_i32_153 v139
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_154 : BitVec 32 := 4#32
  let v141 : BitVec 32 := Scalar.muli v5 c4_i32_154
  let v142 : BitVec 32 := Scalar.addi v140 v141
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_155 : BitVec 32 := 1#32
  let v143 : BitVec 32 := Scalar.muli v30 c1_i32_155
  let v144 : BitVec 32 := Scalar.addi v142 v143
  v144.toNat
def k1_dev6 (d0 : Dev nD) : Nat :=
  let c0_i32_167 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_166 : BitVec 32 := 8#32
  let v153 : BitVec 32 := Scalar.muli v2 c8_i32_166
  let v154 : BitVec 32 := Scalar.addi c0_i32_167 v153
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_168 : BitVec 32 := 4#32
  let v155 : BitVec 32 := Scalar.muli v5 c4_i32_168
  let v156 : BitVec 32 := Scalar.addi v154 v155
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_169 : BitVec 32 := 1#32
  let v157 : BitVec 32 := Scalar.muli v30 c1_i32_169
  let v158 : BitVec 32 := Scalar.addi v156 v157
  v158.toNat
def k1_dev7 (d0 : Dev nD) : Nat :=
  let c0_i32_249 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_248 : BitVec 32 := 8#32
  let v216 : BitVec 32 := Scalar.muli v2 c8_i32_248
  let v217 : BitVec 32 := Scalar.addi c0_i32_249 v216
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_250 : BitVec 32 := 4#32
  let v218 : BitVec 32 := Scalar.muli v5 c4_i32_250
  let v219 : BitVec 32 := Scalar.addi v217 v218
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_251 : BitVec 32 := 1#32
  let v220 : BitVec 32 := Scalar.muli v30 c1_i32_251
  let v221 : BitVec 32 := Scalar.addi v219 v220
  v221.toNat
def k1_dev8 (d0 : Dev nD) : Nat :=
  let c0_i32_263 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_262 : BitVec 32 := 8#32
  let v230 : BitVec 32 := Scalar.muli v2 c8_i32_262
  let v231 : BitVec 32 := Scalar.addi c0_i32_263 v230
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_264 : BitVec 32 := 4#32
  let v232 : BitVec 32 := Scalar.muli v5 c4_i32_264
  let v233 : BitVec 32 := Scalar.addi v231 v232
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_265 : BitVec 32 := 1#32
  let v234 : BitVec 32 := Scalar.muli v30 c1_i32_265
  let v235 : BitVec 32 := Scalar.addi v233 v234
  v235.toNat
abbrev stage1_0 : Fin 1 → Memref sig .tc .vmem S8x8x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x16x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S8x8x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
-- ==== ReferenceIdeal.lean ====
abbrev S8x8x16x128 : Shape := ⟨4, ![8, 8, 16, 128]⟩
abbrev S8x4096x16x128 : Shape := ⟨4, ![8, 4096, 16, 128]⟩
abbrev S8x16x8x4096 : Shape := ⟨4, ![8, 16, 8, 4096]⟩
abbrev S_ : Shape := ⟨0, ![]⟩
abbrev S8x16x8 : Shape := ⟨3, ![8, 16, 8]⟩
abbrev S8x16x8x1 : Shape := ⟨4, ![8, 16, 8, 1]⟩
abbrev S8x16x128x8 : Shape := ⟨4, ![8, 16, 128, 8]⟩

abbrev nBuf : Space → Nat
  | .hbm => 20
  | .vmem => 0
  | .smem => 0
  | _ => 0

abbrev bufTy : (tb : Table) → Fin (tcTables nBuf tb) → BufTy
  | .hbm, ⟨0, _⟩ => ⟨S8x8x16x128, .f32⟩
  | .hbm, ⟨1, _⟩ => ⟨S8x4096x16x128, .f32⟩
  | .hbm, ⟨2, _⟩ => ⟨S8x4096x16x128, .f32⟩
  | .hbm, ⟨3, _⟩ => ⟨S8x16x8x4096, .f32⟩
  | .hbm, ⟨4, _⟩ => ⟨S_, .f32⟩
  | .hbm, ⟨5, _⟩ => ⟨S8x16x8x4096, .f32⟩
  | .hbm, ⟨6, _⟩ => ⟨S8x16x8x4096, .f32⟩
  | .hbm, ⟨7, _⟩ => ⟨S_, .f32⟩
  | .hbm, ⟨8, _⟩ => ⟨S8x16x8, .f32⟩
  | .hbm, ⟨9, _⟩ => ⟨S8x16x8x1, .f32⟩
  | .hbm, ⟨10, _⟩ => ⟨S8x16x8x4096, .f32⟩
  | .hbm, ⟨11, _⟩ => ⟨S8x16x8x4096, .f32⟩
  | .hbm, ⟨12, _⟩ => ⟨S8x16x8x4096, .f32⟩
  | .hbm, ⟨13, _⟩ => ⟨S_, .f32⟩
  | .hbm, ⟨14, _⟩ => ⟨S8x16x8, .f32⟩
  | .hbm, ⟨15, _⟩ => ⟨S8x16x8x1, .f32⟩
  | .hbm, ⟨16, _⟩ => ⟨S8x16x8x4096, .f32⟩
  | .hbm, ⟨17, _⟩ => ⟨S8x16x8x4096, .f32⟩
  | .hbm, ⟨18, _⟩ => ⟨S8x16x128x8, .f32⟩
  | .hbm, ⟨19, _⟩ => ⟨S8x8x16x128, .f32⟩
  | _, _ => ⟨S8x8x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Base.lean ====
/-
  The setting shared by the modules of this certificate: the resource algebra (the pipeline library's rounds beside the
  ring protocol's, whose duties are named by `Bool`), the ring, and how a buffer held whole is written.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Pipeline.FrameBody
public import Idealize.ShloMosaic.Lib.Pipeline.Value
public import Idealize.ShloMosaic.Lib.Pipeline.ReadBack
public import Idealize.ShloMosaic.Lib.Tactic

@[expose] public section

set_option maxRecDepth 16384

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

/-- The ring protocol's rounds: every semaphore a cell, a duty named by a `Bool`. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- The buffer of memref `M` on device `c`, held whole at `f`. -/
abbrev ptM (c : Dev nD) {sp : Space} {S : Shape} {e : EltTy} (M : Memref sig .tc sp S e)
    (f : Buf (Elt F) (M.view.loc (c : Thread nD τ))) : sProp 𝕄 :=
  M.view.loc (c : Thread nD τ) ↦{fullShare} f

/-- The right neighbour on the ring of the four devices that share the first two mesh coordinates. -/
def nxt (c : Dev nD) : Dev nD := ⟨c.val - c.val % 4 + (c.val + 1) % 4, by have := c.isLt; simp only [nD] at *; omega⟩
/-- The left neighbour. -/
def prv (c : Dev nD) : Dev nD := ⟨c.val - c.val % 4 + (c.val + 3) % 4, by have := c.isLt; simp only [nD] at *; omega⟩
theorem prv_nxt (c : Dev nD) : prv (nxt c) = c := by revert c; decide
theorem nxt_prv (c : Dev nD) : nxt (prv c) = c := by revert c; decide
def ring : Dev nD ≃ Dev nD := ⟨nxt, prv, prv_nxt, nxt_prv⟩

end Cert.Ring
-- ==== Proof.Attn.lean ====
/-
  The attention call on one device: one run of its body, for one batch, leaves in its two output blocks the sums
  `oBlk` (the weighted values) and `lBlk` (the weights), whatever they held. Head by head the body zeroes, adds and
  stores a slice; `OGood`/`LGood` say what the blocks read as after the first `h` heads.
-/
module

public import proofs.«01_k».proof.Proof.Base

@[expose] public section

set_option maxRecDepth 16384

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## One head -/

theorem slq (h : Fin 16) : S8x2048.Slices ![0, 128 * h.val] S8x128 := by revert h; decide
theorem slk (h : Fin 16) : S1024x2048.Slices ![0, 128 * h.val] S1024x128 := by revert h; decide

/-- The weights of head `h`: `exp (q · k * scale)`. -/
def pHead (h : Fin 16) (q : Vec F S1x8x2048 .f32) (k : Vec F S1x1024x2048 .f32) : FVec F S8x1024 .f32 :=
  exp (mulf (matmul dot_S8x128_S1024x128_S8x1024_1_1_0_0_n_n none
      (extractStridedSlice S8x128 ![0, 128 * h.val] (shapeCast S8x2048 q shapeCasts_S1x8x2048_S8x2048) (slq h))
      (extractStridedSlice S1024x128 ![0, 128 * h.val] (shapeCast S1024x2048 k shapeCasts_S1x1024x2048_S1024x2048) (slk h))
      (constant S8x1024 .f32 0x00000000#32))
    (broadcast S8x1024 (Scalar.ofBits .f32 0x3DB504F3#32 : F .f32)))

/-- The sum of the weights of head `h`, added to `z`. -/
def lHead (h : Fin 16) (q : Vec F S1x8x2048 .f32) (k : Vec F S1x1024x2048 .f32) (z : Vec F S1x1x8 .f32) : FVec F S1x1x8 .f32 :=
  shapeCast S1x1x8 (addf (shapeCast S8 z shapeCasts_S1x1x8_S8)
    (multiReduction .add [1] S8 (pHead h q k) 0x00000000#32 reduces_S8x1024_S8 (.inl rfl) rfl)) shapeCasts_S8_S1x1x8

/-- The values weighted by them, added to `z`. -/
def oHead (h : Fin 16) (q : Vec F S1x8x2048 .f32) (k v : Vec F S1x1024x2048 .f32) (z : Vec F S1x8x128 .f32) : FVec F S1x8x128 .f32 :=
  shapeCast S1x8x128 (addf (shapeCast S8x128 z shapeCasts_S1x8x128_S8x128)
    (matmul dot_S8x1024_S1024x128_S8x128_1_0_0_1_n_n none (pHead h q k)
      (extractStridedSlice S1024x128 ![0, 128 * h.val] (shapeCast S1024x2048 v shapeCasts_S1x1024x2048_S1024x2048) (slk h))
      (constant S8x128 .f32 0x00000000#32))) shapeCasts_S8x128_S1x8x128

def zero : F .f32 := Scalar.ofBits .f32 0x00000000#32

/-- The head a column belongs to, and the column within the head. -/
def colHead (j : S1x8x2048.Idx) : Fin 16 := ⟨(j 2).val / 128, by have : (j 2).val < 2048 := (j 2).isLt; omega⟩
def colIn (j : S1x8x2048.Idx) : S1x8x128.Idx := fun a => match a with
  | 0 => j 0
  | 1 => j 1
  | 2 => ⟨(j 2).val % 128, Nat.mod_lt _ (by decide)⟩
def rowIn (j : S1x16x8.Idx) : S1x1x8.Idx := fun a => match a with
  | 0 => j 0
  | 1 => ⟨0, by decide⟩
  | 2 => j 2

/-- The two output blocks of one batch. -/
def oBlk (q : Vec F S1x8x2048 .f32) (k v : Vec F S1x1024x2048 .f32) : Vec F S1x8x2048 .f32 := fun j =>
  oHead (colHead j) q k v (fun _ => zero) (colIn j)
def lBlk (q : Vec F S1x8x2048 .f32) (k : Vec F S1x1024x2048 .f32) : Vec F S1x16x8 .f32 := fun j =>
  lHead (j 1) q k (fun _ => zero) (rowIn j)

/-! ## The blocks after the first `n` heads -/

/-- The stores `L` cover the block, and read as `oBlk` at the first `n` heads, zero at the others. -/
structure OGood (q : Vec F S1x8x2048 .f32) (k v : Vec F S1x1024x2048 .f32) (n : ℕ) (L : List (View.Piece (Elt F) S1x8x2048 .f32)) : Prop where
  cover : ∀ y, ∃ p ∈ L, y ∈ p.1.set
  eq : ∀ y, View.canon L y = if (y 2).val < 128 * n then oBlk q k v y else zero

structure LGood (q : Vec F S1x8x2048 .f32) (k : Vec F S1x1024x2048 .f32) (n : ℕ) (L : List (View.Piece (Elt F) S1x16x8 .f32)) : Prop where
  cover : ∀ y, ∃ p ∈ L, y ∈ p.1.set
  eq : ∀ y, View.canon L y = if (y 1).val < n then lBlk q k y else zero

theorem hz3 : (![0, 0, 0] : Fin 3 → Nat) = fun _ => 0 := funext fun a => by fin_cases a <;> rfl

variable {q : Vec F S1x8x2048 .f32} {k v : Vec F S1x1024x2048 .f32}

theorem OGood.start (inb) : OGood q k v 0 [⟨Rect.unit ![0, 0, 0] S1x8x2048.size inb, k0_pay4⟩] where
  cover y := ⟨_, List.mem_singleton.mpr rfl, View.mem_set_unit_zero hz3 inb y⟩
  eq y := by rw [View.canon_unit_zero hz3, Nat.mul_zero, if_neg (Nat.not_lt_zero _)]; rfl

theorem LGood.start (inb) : LGood q k 0 [⟨Rect.unit ![0, 0, 0] S1x16x8.size inb, k0_pay5⟩] where
  cover y := ⟨_, List.mem_singleton.mpr rfl, View.mem_set_unit_zero hz3 inb y⟩
  eq y := by rw [View.canon_unit_zero hz3, if_neg (Nat.not_lt_zero _)]; rfl

theorem OGood.step (h : Fin 16) {L : List (View.Piece (Elt F) S1x8x2048 .f32)} (hL : OGood q k v h.val L) {sp : Space}
    (w : View sig .tc sp S1x8x2048 .f32) {m : ℕ} (hm : m = h.val + 1) {off : Fin 3 → ℕ} (hoff : off = ![0, 0, 128 * h.val])
    (inb : ∀ a, off a + S1x8x128.size a ≤ S1x8x2048.size a) {W : Vec F S1x8x128 .f32}
    (hW : W = oHead h q k v (w.readCov L (Rect.unit (s := S1x8x2048) off S1x8x128.size inb).toLoadRect)) :
    OGood q k v m (⟨Rect.unit off S1x8x128.size inb, W⟩ :: L) where
  cover y := (hL.cover y).imp fun p hp => ⟨List.mem_cons_of_mem _ hp.1, hp.2⟩
  eq y := by
    subst hm hoff hW
    have y0 : (y 0).val < 0 + 1 := by have : (y 0).val < 1 := (y 0).isLt; omega
    have y1 : (y 1).val < 0 + 8 := by have : (y 1).val < 8 := (y 1).isLt; omega
    have hz : w.readCov L (Rect.unit (s := S1x8x2048) ![0, 0, 128 * h.val] S1x8x128.size inb).toLoadRect = fun _ => zero := by
      rw [View.readCov_eq_canon']
      funext j
      rw [hL.eq, if_neg]
      have : ((Rect.unit (s := S1x8x2048) ![0, 0, 128 * h.val] S1x8x128.size inb).toLoadRect.idx j 2).val = 128 * h.val + 1 * (j 2).val := rfl
      omega
    rw [hz]
    by_cases hy : y ∈ (Rect.unit (s := S1x8x2048) ![0, 0, 128 * h.val] S1x8x128.size inb).set
    · obtain ⟨x, rfl⟩ : ∃ x, (Rect.unit (s := S1x8x2048) ![0, 0, 128 * h.val] S1x8x128.size inb).emb x = y := (Rect.unit (s := S1x8x2048) ![0, 0, 128 * h.val] S1x8x128.size inb).exists_idx_of_mem hy
      have e2 : ((Rect.unit (s := S1x8x2048) ![0, 0, 128 * h.val] S1x8x128.size inb).emb x 2).val = 128 * h.val + 1 * (x 2).val := rfl
      have e1 : ((Rect.unit (s := S1x8x2048) ![0, 0, 128 * h.val] S1x8x128.size inb).emb x 1).val = 0 + 1 * (x 1).val := rfl
      have e0 : ((Rect.unit (s := S1x8x2048) ![0, 0, 128 * h.val] S1x8x128.size inb).emb x 0).val = 0 + 1 * (x 0).val := rfl
      have hx : (x 2).val < 128 := (x 2).isLt
      rw [View.canon_cons_emb, if_pos (by omega)]
      show _ = oHead (colHead _) q k v (fun _ => zero) (colIn _)
      have hh : colHead ((Rect.unit (s := S1x8x2048) ![0, 0, 128 * h.val] S1x8x128.size inb).emb x) = h :=
        Fin.ext (by show ((Rect.unit (s := S1x8x2048) ![0, 0, 128 * h.val] S1x8x128.size inb).emb x 2).val / 128 = _; omega)
      have hc : colIn ((Rect.unit (s := S1x8x2048) ![0, 0, 128 * h.val] S1x8x128.size inb).emb x) = x := by
        funext a
        apply Fin.ext
        match a with
        | 0 => exact e0.trans (by omega)
        | 1 => exact e1.trans (by omega)
        | 2 => show ((Rect.unit (s := S1x8x2048) ![0, 0, 128 * h.val] S1x8x128.size inb).emb x 2).val % 128 = _; omega
      rw [hh, hc]; rfl
    · rw [View.canon_cons_of_not_mem]
      swap
      · exact hy
      rw [hL.eq]
      have hno : ¬ (128 * h.val ≤ (y 2).val ∧ (y 2).val < 128 * h.val + 128) := fun hb => hy (by
        refine Rect.mem_set_unit.mpr fun a => ?_
        match a with
        | 0 => exact ⟨Nat.zero_le _, y0⟩
        | 1 => exact ⟨Nat.zero_le _, y1⟩
        | 2 => exact hb)
      by_cases hlt : (y 2).val < 128 * h.val
      · rw [if_pos hlt, if_pos (by omega)]
      · rw [if_neg hlt, if_neg (by omega)]

theorem LGood.step (h : Fin 16) {L : List (View.Piece (Elt F) S1x16x8 .f32)} (hL : LGood q k h.val L) {sp : Space}
    (w : View sig .tc sp S1x16x8 .f32) {m : ℕ} (hm : m = h.val + 1) {off : Fin 3 → ℕ} (hoff : off = ![0, h.val, 0])
    (inb : ∀ a, off a + S1x1x8.size a ≤ S1x16x8.size a) {W : Vec F S1x1x8 .f32}
    (hW : W = lHead h q k (w.readCov L (Rect.unit (s := S1x16x8) off S1x1x8.size inb).toLoadRect)) :
    LGood q k m (⟨Rect.unit off S1x1x8.size inb, W⟩ :: L) where
  cover y := (hL.cover y).imp fun p hp => ⟨List.mem_cons_of_mem _ hp.1, hp.2⟩
  eq y := by
    subst hm hoff hW
    have y0 : (y 0).val < 0 + 1 := by have : (y 0).val < 1 := (y 0).isLt; omega
    have y2 : (y 2).val < 0 + 8 := by have : (y 2).val < 8 := (y 2).isLt; omega
    have hz : w.readCov L (Rect.unit (s := S1x16x8) ![0, h.val, 0] S1x1x8.size inb).toLoadRect = fun _ => zero := by
      rw [View.readCov_eq_canon']
      funext j
      rw [hL.eq, if_neg]
      have : ((Rect.unit (s := S1x16x8) ![0, h.val, 0] S1x1x8.size inb).toLoadRect.idx j 1).val = h.val + 1 * (j 1).val := rfl
      omega
    rw [hz]
    by_cases hy : y ∈ (Rect.unit (s := S1x16x8) ![0, h.val, 0] S1x1x8.size inb).set
    · obtain ⟨x, rfl⟩ : ∃ x, (Rect.unit (s := S1x16x8) ![0, h.val, 0] S1x1x8.size inb).emb x = y := (Rect.unit (s := S1x16x8) ![0, h.val, 0] S1x1x8.size inb).exists_idx_of_mem hy
      have e2 : ((Rect.unit (s := S1x16x8) ![0, h.val, 0] S1x1x8.size inb).emb x 2).val = 0 + 1 * (x 2).val := rfl
      have e1 : ((Rect.unit (s := S1x16x8) ![0, h.val, 0] S1x1x8.size inb).emb x 1).val = h.val + 1 * (x 1).val := rfl
      have e0 : ((Rect.unit (s := S1x16x8) ![0, h.val, 0] S1x1x8.size inb).emb x 0).val = 0 + 1 * (x 0).val := rfl
      have hx : (x 1).val < 1 := (x 1).isLt
      rw [View.canon_cons_emb, if_pos (by omega)]
      show _ = lHead _ q k (fun _ => zero) (rowIn _)
      have hh : (Rect.unit (s := S1x16x8) ![0, h.val, 0] S1x1x8.size inb).emb x 1 = h := Fin.ext (by omega)
      have hc : rowIn ((Rect.unit (s := S1x16x8) ![0, h.val, 0] S1x1x8.size inb).emb x) = x := by
        funext a
        apply Fin.ext
        match a with
        | 0 => exact e0.trans (by omega)
        | 1 => show 0 = (x 1).val; omega
        | 2 => exact e2.trans (by omega)
      rw [hc]; exact congrArg (fun g => lHead g q k (fun _ => zero) x) hh.symm
    · rw [View.canon_cons_of_not_mem]
      swap
      · exact hy
      rw [hL.eq]
      have hno : ¬ (h.val ≤ (y 1).val ∧ (y 1).val < h.val + 1) := fun hb => hy (by
        refine Rect.mem_set_unit.mpr fun a => ?_
        match a with
        | 0 => exact ⟨Nat.zero_le _, y0⟩
        | 1 => exact hb
        | 2 => exact ⟨Nat.zero_le _, y2⟩)
      by_cases hlt : (y 1).val < h.val
      · rw [if_pos hlt, if_pos (by omega)]
      · rw [if_neg hlt, if_neg (by omega)]

theorem OGood.read {L : List (View.Piece (Elt F) S1x8x2048 .f32)} (hL : OGood q k v 16 L) {sp : Space}
    (w : View sig .tc sp S1x8x2048 .f32) (f : w.ty.Contents (Elt F)) : w.read (Elt F) (w.writes (Elt F) f L) = oBlk q k v :=
  (View.read_writes_eq_canon w f L hL.cover).trans (funext fun y => by
    rw [hL.eq]; exact if_pos (y 2).isLt)
theorem LGood.read {L : List (View.Piece (Elt F) S1x16x8 .f32)} (hL : LGood q k 16 L) {sp : Space}
    (w : View sig .tc sp S1x16x8 .f32) (f : w.ty.Contents (Elt F)) : w.read (Elt F) (w.writes (Elt F) f L) = lBlk q k :=
  (View.read_writes_eq_canon w f L hL.cover).trans (funext fun y => by
    rw [hL.eq]; exact if_pos (y 1).isLt)

/-! ## The body -/

theorem attn_sound (c : Dev nD) (i : grid0.Coords)
    (a2 : Memref sig .tc .vmem S1x8x2048 .f32) (h2 : a2.IsWhole) (a3 : Memref sig .tc .vmem S1x1024x2048 .f32) (h3 : a3.IsWhole)
    (a4 : Memref sig .tc .vmem S1x1024x2048 .f32) (h4 : a4.IsWhole) (a5 : Memref sig .tc .vmem S1x8x2048 .f32) (h5 : a5.IsWhole)
    (a6 : Memref sig .tc .vmem S1x16x8 .f32) (h6 : a6.IsWhole)
    (x2 : Vec F S1x8x2048 .f32) (x3 x4 : Vec F S1x1024x2048 .f32) (Q : PUnit → sProp 𝕄) :
    iprop(owns (c : Thread nD τ) a2 fullShare x2 ∗ owns (c : Thread nD τ) a3 fullShare x3 ∗ owns (c : Thread nD τ) a4 fullShare x4
      ∗ (∃ d, owns (c : Thread nD τ) a5 fullShare d) ∗ (∃ d, owns (c : Thread nD τ) a6 fullShare d)
      ∗ (iprop(owns (c : Thread nD τ) a2 fullShare x2 ∗ owns (c : Thread nD τ) a3 fullShare x3 ∗ owns (c : Thread nD τ) a4 fullShare x4
          ∗ owns (c : Thread nD τ) a5 fullShare (oBlk x2 x3 x4) ∗ owns (c : Thread nD τ) a6 fullShare (lBlk x2 x3)) -∗ Q ⟨⟩))
      ⊢ wp frame (wpE (defs₀ (F := F)) 𝒱₀ (c : Thread nD τ) none) Set.univ (cc0__attn_body (F := F) i a2 h2 a3 h3 a4 h4 a5 h5 a6 h6) Q := by
  have hi : Scalar.cmpi .ne ((Scalar.extui (Scalar.cmpi .eq (BitVec.ofNat 32 (i 1).val) 0#32)) : BitVec 32) 0#32 = 1#1 := by
    have : (i 1).val = 0 := Nat.lt_one_iff.mp (i 1).isLt
    rw [this]; decide
  unfold owns
  iintro ⟨⟨%f2, %e2, H2⟩, ⟨%f3, %e3, H3⟩, ⟨%f4, %e4, H4⟩, ⟨%d5, %f5, %e5, H5⟩, ⟨%d6, %f6, %e6, H6⟩, Hk⟩
  subst e2 e3 e4
  have r2 : a2.view.readAt (Elt F) (Rect.unit ![0, 0, 0] S1x8x2048.size inb_S1x8x2048_S1x8x2048_0_0_0).toLoadRect f2 = a2.view.read (Elt F) f2 :=
    (View.readAt_eq_ld ..).trans (View.ld_unit_zero hz3 _ _)
  have r3 : a3.view.readAt (Elt F) (Rect.unit ![0, 0, 0] S1x1024x2048.size inb_S1x1024x2048_S1x1024x2048_0_0_0).toLoadRect f3 = a3.view.read (Elt F) f3 :=
    (View.readAt_eq_ld ..).trans (View.ld_unit_zero hz3 _ _)
  have r4 : a4.view.readAt (Elt F) (Rect.unit ![0, 0, 0] S1x1024x2048.size inb_S1x1024x2048_S1x1024x2048_0_0_0).toLoadRect f4 = a4.view.read (Elt F) f4 :=
    (View.readAt_eq_ld ..).trans (View.ld_unit_zero hz3 _ _)
  rw [Gen.cc0__attn_body_eq_skeleton]; unfold cc0__attn_body_skel
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr; swap
    · iexact H5
    ipureintro
    refine OGood.read ?_ _ _
    refine OGood.step 15 ?_ a5.view rfl rfl _ rfl
    refine OGood.step 14 ?_ a5.view rfl rfl _ rfl
    refine OGood.step 13 ?_ a5.view rfl rfl _ rfl
    refine OGood.step 12 ?_ a5.view rfl rfl _ rfl
    refine OGood.step 11 ?_ a5.view rfl rfl _ rfl
    refine OGood.step 10 ?_ a5.view rfl rfl _ rfl
    refine OGood.step 9 ?_ a5.view rfl rfl _ rfl
    refine OGood.step 8 ?_ a5.view rfl rfl _ rfl
    refine OGood.step 7 ?_ a5.view rfl rfl _ rfl
    refine OGood.step 6 ?_ a5.view rfl rfl _ rfl
    refine OGood.step 5 ?_ a5.view rfl rfl _ rfl
    refine OGood.step 4 ?_ a5.view rfl rfl _ rfl
    refine OGood.step 3 ?_ a5.view rfl rfl _ rfl
    refine OGood.step 2 ?_ a5.view rfl rfl _ rfl
    refine OGood.step 1 ?_ a5.view rfl rfl _ rfl
    refine OGood.step 0 ?_ a5.view rfl rfl _ rfl
    exact OGood.start _
  · iexists _; isplitr; swap
    · iexact H6
    ipureintro
    refine LGood.read ?_ _ _
    refine LGood.step 15 ?_ a6.view rfl rfl _ rfl
    refine LGood.step 14 ?_ a6.view rfl rfl _ rfl
    refine LGood.step 13 ?_ a6.view rfl rfl _ rfl
    refine LGood.step 12 ?_ a6.view rfl rfl _ rfl
    refine LGood.step 11 ?_ a6.view rfl rfl _ rfl
    refine LGood.step 10 ?_ a6.view rfl rfl _ rfl
    refine LGood.step 9 ?_ a6.view rfl rfl _ rfl
    refine LGood.step 8 ?_ a6.view rfl rfl _ rfl
    refine LGood.step 7 ?_ a6.view rfl rfl _ rfl
    refine LGood.step 6 ?_ a6.view rfl rfl _ rfl
    refine LGood.step 5 ?_ a6.view rfl rfl _ rfl
    refine LGood.step 4 ?_ a6.view rfl rfl _ rfl
    refine LGood.step 3 ?_ a6.view rfl rfl _ rfl
    refine LGood.step 2 ?_ a6.view rfl rfl _ rfl
    refine LGood.step 1 ?_ a6.view rfl rfl _ rfl
    refine LGood.step 0 ?_ a6.view rfl rfl _ rfl
    exact LGood.start _

end Cert.Ring
-- ==== Proof.Ring.lean ====
/-
  The all-reduce's ring protocol. Each device has a barrier cell and twelve transfer cells: for the three hops, the cells of
  its own copies' read-out (`o` and `l`) and of the copies that arrive. Every cell has one round. A device's barrier round is
  two units, one from either neighbour; the right neighbour's unit carries that neighbour's landing slots. A transfer cell's
  round is one copy, which hands back a slot at named contents.
-/
module

public import proofs.«01_k».proof.Proof.Base
public import Idealize.ShloMosaic.Lib.Rounds.Family

@[expose] public section

set_option maxRecDepth 16384

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

/-! ## Buffers and slots -/

/-- The two communication buffers, whole. -/
abbrev oM : Memref sig .tc .vmem S4x8x8x2048 .f32 := Memref.whole cc1_scratch1
abbrev lM : Memref sig .tc .vmem S4x8x16x8 .f32 := Memref.whole cc1_scratch2

/-- The elements of slot `k` of either buffer. -/
def setO (k : ℕ) : Finset S4x8x8x2048.Idx := Finset.univ.filter fun i => (i 0).val = k
def setL (k : ℕ) : Finset S4x8x16x8.Idx := Finset.univ.filter fun i => (i 0).val = k

variable (o : Dev nD → Vec F S8x8x2048 .f32) (l : Dev nD → Vec F S8x16x8 .f32)

/-- What device `c`'s buffers hold at the end of the three hops: in slot `k` the partial result of the device `k` steps to the left. -/
def OB (c : Dev nD) : Vec F S4x8x8x2048 .f32 := fun i => o (prv^[(i 0).val] c) fun a => i a.succ
def LB (c : Dev nD) : Vec F S4x8x16x8 .f32 := fun i => l (prv^[(i 0).val] c) fun a => i a.succ

/-- Slot `k` of device `c`'s buffers, held at contents `f`. -/
def oPt (c : Dev nD) (k : ℕ) (f : Vec F S4x8x8x2048 .f32) : sProp 𝕄 :=
  oM.view.loc (c : Thread nD τ) ↦[setO k]{fullShare} f
def lPt (c : Dev nD) (k : ℕ) (f : Vec F S4x8x16x8 .f32) : sProp 𝕄 :=
  lM.view.loc (c : Thread nD τ) ↦[setL k]{fullShare} f

instance oPt_storable (c : Dev nD) (k : ℕ) (f : Vec F S4x8x8x2048 .f32) :
    BI.Storable (upEmb : UEmb _ 𝕄) (oPt c k f) := by unfold oPt; infer_instance
instance lPt_storable (c : Dev nD) (k : ℕ) (f : Vec F S4x8x16x8 .f32) :
    BI.Storable (upEmb : UEmb _ 𝕄) (lPt c k f) := by unfold lPt; infer_instance

/-! ## Cells -/

abbrev barS : Sem sig := barrier0
/-- The kernel's own transfer semaphores: `o` sent 0–2, `o` received 3–5, `l` sent 6–8, `l` received 9–11. -/
abbrev dsem (j : Fin 12) : DmaSem sig := ⟨13 + j.val, by have := j.isLt; show 13 + j.val < 25; omega⟩
abbrev osem1 : Fin 12 → SemLoc sig := fun j => .dma (dsem j)

abbrev barCell (c : Dev nD) : GSem nD τ sig := ((c : Thread nD τ), .reg barS)
abbrev cell (c : Dev nD) (j : Fin 12) : GSem nD τ sig := ((c : Thread nD τ), osem1 j)

/-- One slot's credit in either buffer. -/
abbrev No : ℕ := ((oM.slice (Rect.unit (s := S4x8x8x2048) ![0, 0, 0, 0] S1x8x8x2048.size inb_S4x8x8x2048_S1x8x8x2048_0_0_0_0)
  (fun _ => rfl)).squeeze S8x8x2048 squeezes_S1x8x8x2048_S8x8x2048).view.dmaCredit
abbrev Nl : ℕ := ((lM.slice (Rect.unit (s := S4x8x16x8) ![0, 0, 0, 0] S1x8x16x8.size inb_S4x8x16x8_S1x8x16x8_0_0_0_0)
  (fun _ => rfl)).squeeze S8x16x8 squeezes_S1x8x16x8_S8x16x8).view.dmaCredit
theorem No_pos : 0 < No := View.dmaCredit_pos _ (by decide)
theorem Nl_pos : 0 < Nl := View.dmaCredit_pos _ (by decide)

/-! ## The schedule -/

/-- What the right neighbour hands `c` with its barrier unit: its landing slots, at anything, and that its receive cells are open. -/
def barPay (c : Dev nD) : sProp 𝕄 :=
  iprop(((∃ f, oPt (nxt c) 1 f) ∗ (∃ f, oPt (nxt c) 2 f) ∗ (∃ f, oPt (nxt c) 3 f)
      ∗ (∃ f, lPt (nxt c) 1 f) ∗ (∃ f, lPt (nxt c) 2 f) ∗ (∃ f, lPt (nxt c) 3 f))
    ∗ reached ER (cell (nxt c) 3) 0 ∗ reached ER (cell (nxt c) 4) 0 ∗ reached ER (cell (nxt c) 5) 0
    ∗ reached ER (cell (nxt c) 9) 0 ∗ reached ER (cell (nxt c) 10) 0 ∗ reached ER (cell (nxt c) 11) 0)

/-- What a transfer cell hands back, by its number. -/
def xferPay (c : Dev nD) (q : ℕ) : sProp 𝕄 :=
  if q < 16 then oPt c (q - 13) (OB o c) else if q < 19 then oPt c (q - 15) (OB o c)
  else if q < 22 then lPt c (q - 19) (LB l c) else lPt c (q - 21) (LB l c)

instance xferPay_storable (c : Dev nD) (q : ℕ) : BI.Storable (upEmb : UEmb _ 𝕄) (xferPay (F := F) o l c q) := by
  unfold xferPay; (repeat' split) <;> infer_instance
instance barPay_storable (c : Dev nD) : BI.Storable (upEmb : UEmb _ 𝕄) (barPay (F := F) c) := by
  unfold barPay; infer_instance

def ringRd : Rounds.Schedule (GSem nD τ sig) Bool 𝕄 where
  duties g r := if r = 0 ∧ g.1.2 = .tc then
      match g.2 with
      | .reg s => if s = barS then Finset.univ else ∅
      | .dma q => if 13 ≤ q.val then {false} else ∅
    else ∅
  unitless _ := False
  amount g _ _ := match g.2 with
    | .reg _ => 1
    | .dma q => if q.val < 19 then No else Nl
  payload g _ d := match g.2 with
    | .reg _ => if d then barPay g.1.1 else iprop(emp)
    | .dma q => xferPay o l g.1.1 q.val
  amount_pos g _ _ _ := by
    rcases g with ⟨_, s | q⟩
    · exact Nat.one_pos
    · dsimp only; split
      · exact No_pos
      · exact Nl_pos

instance ringRd_payload_storable (g : GSem nD τ sig) (r : ℕ) (d : Bool) :
    BI.Storable (upEmb : UEmb _ 𝕄) ((ringRd (F := F) o l).payload g r d) := by
  rcases g with ⟨t, s | q⟩
  · show BI.Storable upEmb (if d then barPay t.1 else iprop(emp))
    split <;> infer_instance
  · show BI.Storable upEmb (xferPay o l t.1 q.val)
    infer_instance

section Sched

variable (c : Dev nD) (j : Fin 12)

/-- What one cell's transfer credits. -/
def amt (j : Fin 12) : ℕ := if j.val < 6 then No else Nl

theorem duties_bar : (ringRd o l).duties (barCell c) 0 = Finset.univ := by
  show (if (0 = 0 ∧ (c : Thread nD τ).2 = .tc) then (if barS = barS then Finset.univ else ∅) else ∅) = _
  rw [if_pos ⟨rfl, rfl⟩, if_pos rfl]
theorem duties_cell : (ringRd o l).duties (cell c j) 0 = {false} := by
  show (if (0 = 0 ∧ (c : Thread nD τ).2 = .tc) then (if 13 ≤ 13 + j.val then {false} else ∅) else ∅) = _
  rw [if_pos ⟨rfl, rfl⟩, if_pos (by omega)]
theorem duties_later (g : GSem nD τ sig) : ∀ r, 1 ≤ r → (ringRd o l).duties g r = ∅ := fun r hr => by
  dsimp only [ringRd]; exact if_neg fun h => by omega
theorem amount_bar (d : Bool) : (ringRd o l).amount (barCell c) 0 d = 1 := rfl
theorem amount_cell (d : Bool) : (ringRd o l).amount (cell c j) 0 d = amt j := by
  show (if 13 + j.val < 19 then No else Nl) = if j.val < 6 then No else Nl
  by_cases h : j.val < 6
  · rw [if_pos h, if_pos (by omega)]
  · rw [if_neg h, if_neg (by omega)]
theorem expect_bar : (ringRd o l).expect (barCell c) 0 = 2 := by
  unfold Schedule.expect Schedule.amountOf; rw [duties_bar]; rfl
theorem expect_cell : (ringRd o l).expect (cell c j) 0 = amt j := by
  unfold Schedule.expect Schedule.amountOf; rw [duties_cell, Finset.sum_singleton, amount_cell]
theorem payload_bar_true : (ringRd o l).payload (barCell c) 0 true = barPay c := rfl
theorem payload_bar_false : (ringRd o l).payload (barCell c) 0 false = iprop(emp) := rfl
theorem payload_cell (d : Bool) : (ringRd o l).payload (cell c j) 0 d = xferPay o l c (13 + j.val) := rfl

theorem rest_bar : bigSep ((ringRd o l).duties (barCell c) 0 \ ∅) (fun d => (ringRd o l).payload (barCell c) 0 d)
    ⊢ (barPay c : sProp 𝕄) := by
  rw [Finset.sdiff_empty, duties_bar, bigSep_univ_eq_bigSepL [true, false] (by decide) (by decide)]
  show iprop(barPay c ∗ emp) ⊢ barPay c
  iintro ⟨H, -⟩; iexact H
theorem rest_cell : bigSep ((ringRd o l).duties (cell c j) 0 \ ∅) (fun d => (ringRd o l).payload (cell c j) 0 d)
    = (xferPay o l c (13 + j.val) : sProp 𝕄) := by
  rw [Finset.sdiff_empty, duties_cell, bigSep_singleton, payload_cell]

end Sched

/-! ## What a device owes, and the levels -/

/-- What device `c` still owes with hops `2`, `1`, `0`, then its barrier units, to pay. -/
abbrev T0 (c : Dev nD) : CellTallies nD τ sig Unit := 0
abbrev T1 (c : Dev nD) : CellTallies nD τ sig Unit := T0 c + tallyAt (cell (nxt c) 11) () Nl
abbrev T2 (c : Dev nD) : CellTallies nD τ sig Unit := T1 c + tallyAt (cell (nxt c) 5) () No
abbrev T3 (c : Dev nD) : CellTallies nD τ sig Unit := T2 c + tallyAt (cell (nxt c) 10) () Nl
abbrev T4 (c : Dev nD) : CellTallies nD τ sig Unit := T3 c + tallyAt (cell (nxt c) 4) () No
abbrev T5 (c : Dev nD) : CellTallies nD τ sig Unit := T4 c + tallyAt (cell (nxt c) 9) () Nl
abbrev T6 (c : Dev nD) : CellTallies nD τ sig Unit := T5 c + tallyAt (cell (nxt c) 3) () No
abbrev T7 (c : Dev nD) : CellTallies nD τ sig Unit := T6 c + tallyAt (barCell (nxt c)) () 1
abbrev T8 (c : Dev nD) : CellTallies nD τ sig Unit := T7 c + tallyAt (barCell (prv c)) () 1
def O₀ (c : Dev nD) : CellTallies nD τ sig Unit := T8 c

def L (g : GSem nD τ sig) : Finset Unit := if g.1.2 = .tc then {()} else ∅
/-- A receive cell of hop `h` at `2 + h`, a barrier cell at 1, the rest at 0. -/
def lvs (s : SemLoc sig) : ℕ := match s with
  | .reg _ => 1
  | .dma q => if 16 ≤ q.val ∧ q.val < 19 then q.val - 14 else if 22 ≤ q.val then q.val - 20 else 0
def lv (g : GSem nD τ sig) (_ : Unit) : ℕ := lvs g.2

theorem L_of_ne (g : GSem nD τ sig) (h : g.1.2 ≠ .tc) : L g = ∅ := if_neg h
theorem L_tc (c : Dev nD) (sm : SemLoc sig) : L ((c : Thread nD τ), sm) = {()} := if_pos rfl

/-- Every cell that `T` owes something is a core's, above level `b`. -/
def Above (b : ℕ) (T : CellTallies nD τ sig Unit) : Prop :=
  ∀ (g : GSem nD τ sig) (u : Unit), 0 < T g u → g.1.2 = .tc ∧ b < lvs g.2

theorem above_zero (b : ℕ) : Above b 0 := fun g u h => absurd h (Nat.lt_irrefl 0)
theorem above_add {b : ℕ} {T : CellTallies nD τ sig Unit} (h : Above b T) (d : Dev nD) (s : SemLoc sig) (n : ℕ) (hs : b < lvs s) :
    Above b (T + tallyAt ((d : Thread nD τ), s) () n) := fun g u hg => by
  rw [Pi.add_apply, Finsupp.add_apply, tallyAt_apply] at hg
  by_cases h' : g = ((d : Thread nD τ), s) ∧ u = ()
  · rw [h'.1]; exact ⟨rfl, hs⟩
  · rw [if_neg h'] at hg; exact h g u hg

theorem mayWait (c : Dev nD) (s : SemLoc sig) (T : CellTallies nD τ sig Unit) (h : Above (lvs s) T) :
    (levAts L lv : sProp 𝕄) ⊢ MayWait (c : Thread nD τ) s () T :=
  MayOwe.of_cut (L := L) (lev := lv) (lvs s)
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact Nat.le_refl _)
    (fun g u hg => (h g u hg).2)

theorem above2 (b : ℕ) (hb : b < 4) (c : Dev nD) : Above b (T2 c) := by
  refine above_add (above_add (above_zero b) _ _ _ ?_) _ _ _ ?_ <;> exact hb
theorem above4 (b : ℕ) (hb : b < 3) (c : Dev nD) : Above b (T4 c) := by
  refine above_add (above_add (above2 b (by omega) c) _ _ _ ?_) _ _ _ ?_ <;> exact hb
theorem above6 (b : ℕ) (hb : b < 2) (c : Dev nD) : Above b (T6 c) := by
  refine above_add (above_add (above4 b (by omega) c) _ _ _ ?_) _ _ _ ?_ <;> exact hb
theorem above8 (c : Dev nD) : Above 0 (O₀ c) := by
  refine above_add (above_add (above6 0 (by decide) c) _ _ _ ?_) _ _ _ ?_ <;> exact Nat.one_pos

/-! ## The ghost state -/

/-- The invariants device `c` opens: its own cells', its neighbours' barrier cells', its right neighbour's receive cells'. -/
def invs (K : GSem nD τ sig → ℕ) (c : Dev nD) : sProp 𝕄 :=
  iprop(cellInv ER (ringRd o l) (K (barCell c)) (barCell c)
    ∗ cellInv ER (ringRd o l) (K (barCell (prv c))) (barCell (prv c))
    ∗ cellInv ER (ringRd o l) (K (barCell (nxt c))) (barCell (nxt c))
    ∗ (bigSep Finset.univ fun j : Fin 12 => cellInv ER (ringRd o l) (K (cell c j)) (cell c j))
    ∗ (bigSep Finset.univ fun j : Fin 12 => cellInv ER (ringRd o l) (K (cell (nxt c) j)) (cell (nxt c) j)))

instance invs_persistent (K : GSem nD τ sig → ℕ) (c : Dev nD) : BI.Persistent (invs o l K c) := by unfold invs; infer_instance

/-- The six duties that `c` pays on its right neighbour's receive cells, and the six on its own send cells. -/
def toks (c : Dev nD) : sProp 𝕄 :=
  iprop(dutyTok ER (barCell (prv c)) 0 true ∗ dutyTok ER (barCell (nxt c)) 0 false
    ∗ (dutyTok ER (cell (nxt c) 3) 0 false ∗ dutyTok ER (cell (nxt c) 4) 0 false ∗ dutyTok ER (cell (nxt c) 5) 0 false
      ∗ dutyTok ER (cell (nxt c) 9) 0 false ∗ dutyTok ER (cell (nxt c) 10) 0 false ∗ dutyTok ER (cell (nxt c) 11) 0 false)
    ∗ dutyTok ER (cell c 0) 0 false ∗ dutyTok ER (cell c 1) 0 false ∗ dutyTok ER (cell c 2) 0 false
    ∗ dutyTok ER (cell c 6) 0 false ∗ dutyTok ER (cell c 7) 0 false ∗ dutyTok ER (cell c 8) 0 false)

/-- What device `c` carries from the launch to the reducing call. -/
def ghost (K : GSem nD τ sig → ℕ) (c : Dev nD) : sProp 𝕄 :=
  iprop(invs o l K c ∗ atPos ER (barCell c) 0 ∅ 0
    ∗ (bigSep Finset.univ fun j : Fin 12 => openTok ER (cell c j))
    ∗ reached ER (barCell (prv c)) 0 ∗ reached ER (barCell (nxt c)) 0 ∗ toks c)

/-- The credit tokens for the units that its neighbours send it. -/
def creds (c : Dev nD) : sProp 𝕄 :=
  iprop(cred (tallyAt (barCell c) () 2)
    ∗ cred (tallyAt (cell c 3) () No) ∗ cred (tallyAt (cell c 4) () No) ∗ cred (tallyAt (cell c 5) () No)
    ∗ cred (tallyAt (cell c 9) () Nl) ∗ cred (tallyAt (cell c 10) () Nl) ∗ cred (tallyAt (cell c 11) () Nl))

/-- After the transfer cells are opened. -/
def opened (K : GSem nD τ sig → ℕ) (c : Dev nD) : sProp 𝕄 :=
  iprop(invs o l K c ∗ atPos ER (barCell c) 0 ∅ 0
    ∗ (bigSep Finset.univ fun j : Fin 12 => iprop(atPos ER (cell c j) 0 ∅ 0 ∗ reached ER (cell c j) 0))
    ∗ reached ER (barCell (prv c)) 0 ∗ reached ER (barCell (nxt c)) 0 ∗ toks c)

theorem ghost_open (K : GSem nD τ sig → ℕ) (c : Dev nD) :
    iprop(ghost o l K c ∗ bigSep Finset.univ fun j : Fin 12 => semVal (cell c j) 0)
      ⊢ (|={Set.univ}=> opened o l K c : sProp 𝕄) := by
  unfold ghost opened
  iintro ⟨⟨#Hi, Hb, Ht, Hp, Hn, Hk⟩, Hs⟩
  imod (Rounds.cells_open ER (ringRd o l) (Finset.univ : Finset (Fin 12)) (fun j => cell c j) (fun j => K (cell c j))
    (fun _ _ => Set.mem_univ _)) $$ [Ht Hs] with Hat
  · isplitl [Ht]
    · rw [bigSep_sep']
      isplitr
      · unfold invs; icases Hi with ⟨-, -, -, H, -⟩; iexact H
      · iexact Ht
    · iexact Hs
  imodintro
  isplitr; · iexact Hi
  isplitl [Hb]; · iexact Hb
  isplitl [Hat]; · iexact Hat
  isplitl [Hp]; · iexact Hp
  isplitl [Hn]; · iexact Hn
  iexact Hk

theorem close (κ : ℕ) (g : GSem nD τ sig) :
    iprop(cellInv ER (ringRd o l) κ g ∗ atPos ER g (0 + 1) ∅ 0) ⊢ (|={Set.univ}=> semVal g 0 : sProp 𝕄) :=
  Rounds.cell_close ER (ringRd o l) (Set.mem_univ κ) id (duties_later o l g)

end Cert.Ring

end
-- ==== Proof.Attn2.lean ====
/-
  The attention call over its grid: its eight points run the body on the eight batches, and leave in the two output arrays, at
  batch `b`, the blocks `oBlk` and `lBlk` of the batch `b` of the three inputs.
-/
module

public import proofs.«01_k».proof.Proof.Attn
public import proofs.«01_k».proof.Proof.Ring
public import proofs.«01_k».proof.Proof.Gen.KernelIdeal.Regions

@[expose] public section

set_option maxRecDepth 16384

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

/-! ## Batches of the arrays -/

/-- Batch `b` of an array, as a block. -/
def qRow (b : Fin 8) (q : Vec F S8x8x2048 .f32) : Vec F S1x8x2048 .f32 := fun x => q fun a => match a with | 0 => b | 1 => x 1 | 2 => x 2
def kRow (b : Fin 8) (k : Vec F S8x1024x2048 .f32) : Vec F S1x1024x2048 .f32 := fun x => k fun a => match a with | 0 => b | 1 => x 1 | 2 => x 2

/-- The two output arrays of the attention call. -/
def oAll (q : Vec F S8x8x2048 .f32) (k v : Vec F S8x1024x2048 .f32) : Vec F S8x8x2048 .f32 := fun i =>
  oBlk (qRow (i 0) q) (kRow (i 0) k) (kRow (i 0) v) fun a => match a with | 0 => (⟨0, Nat.one_pos⟩ : Fin 1) | 1 => i 1 | 2 => i 2
def lAll (q : Vec F S8x8x2048 .f32) (k : Vec F S8x1024x2048 .f32) : Vec F S8x16x8 .f32 := fun i =>
  lBlk (qRow (i 0) q) (kRow (i 0) k) fun a => match a with | 0 => (⟨0, Nat.one_pos⟩ : Fin 1) | 1 => i 1 | 2 => i 2

/-! ## The windows' blocks: point `t` is batch `t` -/

/-- The batch of a point. -/
def bat (t : Fin grid0.N) : Fin 8 := ⟨t.val, by have := t.isLt; have := N_0; omega⟩

theorem ix0 (t : Fin grid0.N) : win0_0.index t 0 = t.val ∧ win0_0.index t 1 = 0 ∧ win0_0.index t 2 = 0 := by
  rcases fin_N0 t with rfl | rfl | rfl | rfl | rfl | rfl | rfl | rfl <;> decide +kernel
theorem ix1 (t : Fin grid0.N) : win0_1.index t 0 = t.val ∧ win0_1.index t 1 = 0 ∧ win0_1.index t 2 = 0 := by
  rcases fin_N0 t with rfl | rfl | rfl | rfl | rfl | rfl | rfl | rfl <;> decide +kernel
theorem ix2 (t : Fin grid0.N) : win0_2.index t 0 = t.val ∧ win0_2.index t 1 = 0 ∧ win0_2.index t 2 = 0 := by
  rcases fin_N0 t with rfl | rfl | rfl | rfl | rfl | rfl | rfl | rfl <;> decide +kernel
theorem ix3 (t : Fin grid0.N) : win0_3.index t 0 = t.val ∧ win0_3.index t 1 = 0 ∧ win0_3.index t 2 = 0 := by
  rcases fin_N0 t with rfl | rfl | rfl | rfl | rfl | rfl | rfl | rfl <;> decide +kernel
theorem ix4 (t : Fin grid0.N) : win0_4.index t 0 = t.val ∧ win0_4.index t 1 = 0 ∧ win0_4.index t 2 = 0 := by
  rcases fin_N0 t with rfl | rfl | rfl | rfl | rfl | rfl | rfl | rfl <;> decide +kernel

/-- An index of an array of three axes is the one read at batch `b` in a block when its coordinates are. -/
theorem ext3 {d : Fin 3 → ℕ} {y z : (a : Fin 3) → Fin (d a)} (h0 : (y 0).val = (z 0).val) (h1 : (y 1).val = (z 1).val) (h2 : (y 2).val = (z 2).val) : y = z := by
  funext a; apply Fin.ext; fin_cases a <;> assumption

theorem blk0 (t : Fin cfg0.N) (f : Vec F S8x8x2048 .f32) : ((cfg0.win 0).blk t).view.read (Elt F) f = qRow (bat t) f := by
  funext x
  show f ((win0_0.rect t).emb x) = f _
  congr 1
  obtain ⟨h0, h1, h2⟩ := ix0 t
  refine ext3 (d := S8x8x2048.size) ?_ ?_ ?_
  · rw [win0_0.rect_emb_val t x 0 rfl, h0]
    have : (x 0).val < 1 := (x 0).isLt
    show t.val * 1 + (x 0).val = t.val
    omega
  · rw [win0_0.rect_emb_val t x 1 rfl, h1]; show 0 * 8 + (x 1).val = (x 1).val; omega
  · rw [win0_0.rect_emb_val t x 2 rfl, h2]; show 0 * 2048 + (x 2).val = (x 2).val; omega

theorem blk1 (t : Fin cfg0.N) (f : Vec F S8x1024x2048 .f32) : ((cfg0.win 1).blk t).view.read (Elt F) f = kRow (bat t) f := by
  funext x
  show f ((win0_1.rect t).emb x) = f _
  congr 1
  obtain ⟨h0, h1, h2⟩ := ix1 t
  refine ext3 (d := S8x1024x2048.size) ?_ ?_ ?_
  · rw [win0_1.rect_emb_val t x 0 rfl, h0]
    have : (x 0).val < 1 := (x 0).isLt
    show t.val * 1 + (x 0).val = t.val
    omega
  · rw [win0_1.rect_emb_val t x 1 rfl, h1]; show 0 * 1024 + (x 1).val = (x 1).val; omega
  · rw [win0_1.rect_emb_val t x 2 rfl, h2]; show 0 * 2048 + (x 2).val = (x 2).val; omega

theorem blk2 (t : Fin cfg0.N) (f : Vec F S8x1024x2048 .f32) : ((cfg0.win 2).blk t).view.read (Elt F) f = kRow (bat t) f := by
  funext x
  show f ((win0_2.rect t).emb x) = f _
  congr 1
  obtain ⟨h0, h1, h2⟩ := ix2 t
  refine ext3 (d := S8x1024x2048.size) ?_ ?_ ?_
  · rw [win0_2.rect_emb_val t x 0 rfl, h0]
    have : (x 0).val < 1 := (x 0).isLt
    show t.val * 1 + (x 0).val = t.val
    omega
  · rw [win0_2.rect_emb_val t x 1 rfl, h1]; show 0 * 1024 + (x 1).val = (x 1).val; omega
  · rw [win0_2.rect_emb_val t x 2 rfl, h2]; show 0 * 2048 + (x 2).val = (x 2).val; omega

/-- Batch `t` of an output array, read at a block's index. -/
theorem blk3 (t : Fin cfg0.N) (f : Vec F S8x8x2048 .f32) : ((cfg0.win 3).blk t).view.read (Elt F) f = qRow (bat t) f := by
  funext x
  show f ((win0_3.rect t).emb x) = f _
  congr 1
  obtain ⟨h0, h1, h2⟩ := ix3 t
  refine ext3 (d := S8x8x2048.size) ?_ ?_ ?_
  · rw [win0_3.rect_emb_val t x 0 rfl, h0]
    have : (x 0).val < 1 := (x 0).isLt
    show t.val * 1 + (x 0).val = t.val
    omega
  · rw [win0_3.rect_emb_val t x 1 rfl, h1]; show 0 * 8 + (x 1).val = (x 1).val; omega
  · rw [win0_3.rect_emb_val t x 2 rfl, h2]; show 0 * 2048 + (x 2).val = (x 2).val; omega

theorem blk4 (t : Fin cfg0.N) (f : Vec F S8x16x8 .f32) : ((cfg0.win 4).blk t).view.read (Elt F) f
    = fun x : S1x16x8.Idx => f fun a => match a with | 0 => bat t | 1 => x 1 | 2 => x 2 := by
  funext x
  show f ((win0_4.rect t).emb x) = f _
  congr 1
  obtain ⟨h0, h1, h2⟩ := ix4 t
  refine ext3 (d := S8x16x8.size) ?_ ?_ ?_
  · rw [win0_4.rect_emb_val t x 0 rfl, h0]
    have : (x 0).val < 1 := (x 0).isLt
    show t.val * 1 + (x 0).val = t.val
    omega
  · rw [win0_4.rect_emb_val t x 1 rfl, h1]; show 0 * 16 + (x 1).val = (x 1).val; omega
  · rw [win0_4.rect_emb_val t x 2 rfl, h2]; show 0 * 8 + (x 2).val = (x 2).val; omega

/-! ## The proof data of the attention call -/

variable (m : (ℓ : Loc nD τ sig) → Buf (Elt F) ℓ)

/-- The host's three reshapes, as the call finds them. -/
abbrev q0 (c : Dev nD) : Vec F S8x8x2048 .f32 := V1 m c main_v1
abbrev k0 (c : Dev nD) : Vec F S8x1024x2048 .f32 := V1 m c main_v2
abbrev v0 (c : Dev nD) : Vec F S8x1024x2048 .f32 := V1 m c main_v3
/-- What it leaves. -/
def oD (c : Dev nD) : Vec F S8x8x2048 .f32 := oAll (q0 m c) (k0 m c) (v0 m c)
def lD (c : Dev nD) : Vec F S8x16x8 .f32 := lAll (q0 m c) (k0 m c)

def dat0 (c : Dev nD) : Dat τ (Elt F) Unit ℕ UU ℕ cfg0 c where
  A w := V1 m c (Pipeline.arrRef spec0 w)
  after w t := match w with
    | ⟨0, _⟩ => qRow (bat t) (q0 m c)
    | ⟨1, _⟩ => kRow (bat t) (k0 m c)
    | ⟨2, _⟩ => kRow (bat t) (v0 m c)
    | ⟨3, _⟩ => oBlk (qRow (bat t) (q0 m c)) (kRow (bat t) (k0 m c)) (kRow (bat t) (v0 m c))
    | ⟨4, _⟩ => lBlk (qRow (bat t) (q0 m c)) (kRow (bat t) (k0 m c))
  Φ _ := Pipeline.scopedRest spec0 c
  q _ := fullShare
  owed _ := O₀ c

theorem before0_0 (c : Dev nD) (t : Fin cfg0.N) (d) : (dat0 m c).before 0 t d = qRow (bat t) (q0 m c) :=
  ((dat0 m c).before_fetched 0 t (fetch0_0 t) d).trans (blk0 t (q0 m c))
theorem before0_1 (c : Dev nD) (t : Fin cfg0.N) (d) : (dat0 m c).before 1 t d = kRow (bat t) (k0 m c) :=
  ((dat0 m c).before_fetched 1 t (fetch0_1 t) d).trans (blk1 t (k0 m c))
theorem before0_2 (c : Dev nD) (t : Fin cfg0.N) (d) : (dat0 m c).before 2 t d = kRow (bat t) (v0 m c) :=
  ((dat0 m c).before_fetched 2 t (fetch0_2 t) d).trans (blk2 t (v0 m c))

theorem row0 (t : Fin cfg0.N) : defs₀ (F := F) .tc cfg0.body (cfg0.bodyArgs t (cfg0.slots t)) = bodyAt0 t := by
  unfold defs₀; rw [Defs.onTc_tc]

/-- The body's obligation: the run of the body at the current staging buffers. -/
theorem body0 (c : Dev nD) : BodyObligation (dat0 (F := F) m c) defs₀ 𝒱₀ () Set.univ := fun t => by
  rw [bigSep_W0, bigSep_W0, row0]
  simp only [before0_0, before0_1, before0_2]
  rw [show (dat0 m c).Φ t.castSucc = (dat0 m c).Φ t.succ from rfl, show (dat0 m c).owesAt () t.castSucc = (dat0 m c).owesAt () t.succ from rfl]
  iintro ⟨HΦ, HO, ⟨%d0, H0⟩, ⟨%d1, H1⟩, ⟨%d2, H2⟩, ⟨%d3, H3⟩, ⟨%d4, H4⟩⟩
  iapply (attn_sound (F := F) c (grid0.coords t) _ _ _ _ _ _ _ _ _ _ (qRow (bat t) (q0 m c)) (kRow (bat t) (k0 m c)) (kRow (bat t) (v0 m c)) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [HO]; · iexact HO
  isplitl [H0]; · iexact H0
  isplitl [H1]; · iexact H1
  isplitl [H2]; · iexact H2
  isplitl [H3]; · iexact H3
  iexact H4

/-! ## What the call leaves in its arrays -/

theorem mem3 (t : Fin cfg0.N) (i : S8x8x2048.Idx) (h : (i 0).val = t.val) : i ∈ ((cfg0.win 3).blk t).view.set := by
  show i ∈ ((View.whole main_v4_0).slice (win0_3.rect t)).set
  rw [View.set_slice_whole, Rect.mem_set_unit]
  obtain ⟨h0, h1, h2⟩ := ix3 t
  have b0 : (i 0).val < 8 := (i 0).isLt
  have b1 : (i 1).val < 8 := (i 1).isLt
  have b2 : (i 2).val < 2048 := (i 2).isLt
  intro a
  fin_cases a
  · show win0_3.index t 0 * 1 ≤ (i 0).val ∧ (i 0).val < win0_3.index t 0 * 1 + 1; omega
  · show win0_3.index t 1 * 8 ≤ (i 1).val ∧ (i 1).val < win0_3.index t 1 * 8 + 8; omega
  · show win0_3.index t 2 * 2048 ≤ (i 2).val ∧ (i 2).val < win0_3.index t 2 * 2048 + 2048; omega
theorem mem4 (t : Fin cfg0.N) (i : S8x16x8.Idx) (h : (i 0).val = t.val) : i ∈ ((cfg0.win 4).blk t).view.set := by
  show i ∈ ((View.whole main_v4_1).slice (win0_4.rect t)).set
  rw [View.set_slice_whole, Rect.mem_set_unit]
  obtain ⟨h0, h1, h2⟩ := ix4 t
  have b0 : (i 0).val < 8 := (i 0).isLt
  have b1 : (i 1).val < 16 := (i 1).isLt
  have b2 : (i 2).val < 8 := (i 2).isLt
  intro a
  fin_cases a
  · show win0_4.index t 0 * 1 ≤ (i 0).val ∧ (i 0).val < win0_4.index t 0 * 1 + 1; omega
  · show win0_4.index t 1 * 16 ≤ (i 1).val ∧ (i 1).val < win0_4.index t 1 * 16 + 16; omega
  · show win0_4.index t 2 * 8 ≤ (i 2).val ∧ (i 2).val < win0_4.index t 2 * 8 + 8; omega

theorem last3 (c : Dev nD) : (dat0 m c).arrAt 3 cfg0.N = oD m c :=
  (dat0 m c).arrAt_eq_of_cover 3 (oD m c)
    (fun t _ => by
      refine Eq.trans ?_ (blk3 t (oD m c)).symm
      show oBlk (qRow (bat t) (q0 m c)) (kRow (bat t) (k0 m c)) (kRow (bat t) (v0 m c)) = _
      funext x
      refine congrArg (oBlk (qRow (bat t) (q0 m c)) (kRow (bat t) (k0 m c)) (kRow (bat t) (v0 m c))) ?_
      have : (x 0).val < 1 := (x 0).isLt
      refine ext3 (d := S1x8x2048.size) ?_ rfl rfl
      show (x 0).val = 0; omega)
    fun i => ⟨⟨(i 0).val, by rw [show cfg0.N = 8 from N_0]; exact (i 0).isLt⟩, flush0_3 _, mem3 _ i rfl⟩
theorem last4 (c : Dev nD) : (dat0 m c).arrAt 4 cfg0.N = lD m c :=
  (dat0 m c).arrAt_eq_of_cover 4 (lD m c)
    (fun t _ => by
      refine Eq.trans ?_ (blk4 t (lD m c)).symm
      show lBlk (qRow (bat t) (q0 m c)) (kRow (bat t) (k0 m c)) = _
      funext x
      refine congrArg (lBlk (qRow (bat t) (q0 m c)) (kRow (bat t) (k0 m c))) ?_
      have : (x 0).val < 1 := (x 0).isLt
      refine ext3 (d := S1x16x8.size) ?_ rfl rfl
      show (x 0).val = 0; omega)
    fun i => ⟨⟨(i 0).val, by rw [show cfg0.N = 8 from N_0]; exact (i 0).isLt⟩, flush0_4 _, mem4 _ i rfl⟩

end Cert.Ring

end
-- ==== Proof.Slots.lean ====
/-
  The slots of the two communication buffers: the views that the copies go through, as sets of elements; what a copy from slot
  `k` of one device leaves in slot `k + 1` of the next; a whole buffer as its four slots.
-/
module

public import proofs.«01_k».proof.Proof.Ring

@[expose] public section

set_option maxRecDepth 16384

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

/-- Slot `k` of either buffer, as the copies name it. -/
abbrev rectO (k : ℕ) (h : ∀ a, (![k, 0, 0, 0] : Fin 4 → ℕ) a + S1x8x8x2048.size a ≤ S4x8x8x2048.size a) : Rect S4x8x8x2048 :=
  Rect.unit (s := S4x8x8x2048) ![k, 0, 0, 0] S1x8x8x2048.size h
abbrev rectL (k : ℕ) (h : ∀ a, (![k, 0, 0, 0] : Fin 4 → ℕ) a + S1x8x16x8.size a ≤ S4x8x16x8.size a) : Rect S4x8x16x8 :=
  Rect.unit (s := S4x8x16x8) ![k, 0, 0, 0] S1x8x16x8.size h
abbrev slotO (k : ℕ) (h : ∀ a, (![k, 0, 0, 0] : Fin 4 → ℕ) a + S1x8x8x2048.size a ≤ S4x8x8x2048.size a) :
    Memref sig .tc .vmem S8x8x2048 .f32 :=
  (oM.slice (rectO k h) (fun _ => rfl)).squeeze S8x8x2048 squeezes_S1x8x8x2048_S8x8x2048
abbrev slotL (k : ℕ) (h : ∀ a, (![k, 0, 0, 0] : Fin 4 → ℕ) a + S1x8x16x8.size a ≤ S4x8x16x8.size a) :
    Memref sig .tc .vmem S8x16x8 .f32 :=
  (lM.slice (rectL k h) (fun _ => rfl)).squeeze S8x16x8 squeezes_S1x8x16x8_S8x16x8

section

variable (k : ℕ)

theorem rectO_set (h : ∀ a, (![k, 0, 0, 0] : Fin 4 → ℕ) a + S1x8x8x2048.size a ≤ S4x8x8x2048.size a) : (rectO k h).set = setO k := by
  ext i
  rw [Rect.mem_set_unit]
  simp only [setO, Finset.mem_filter, Finset.mem_univ, true_and]
  constructor
  · intro H; have := H 0; simp at this; omega
  · intro H a
    have := (i a).isLt
    fin_cases a <;> simp at this ⊢ <;> omega
theorem rectL_set (h : ∀ a, (![k, 0, 0, 0] : Fin 4 → ℕ) a + S1x8x16x8.size a ≤ S4x8x16x8.size a) : (rectL k h).set = setL k := by
  ext i
  rw [Rect.mem_set_unit]
  simp only [setL, Finset.mem_filter, Finset.mem_univ, true_and]
  constructor
  · intro H; have := H 0; simp at this; omega
  · intro H a
    have := (i a).isLt
    fin_cases a <;> simp at this ⊢ <;> omega

theorem slotO_set (h) : (slotO k h).view.set = setO k := by
  show (((View.whole cc1_scratch1).slice (rectO k h)).reshape S8x8x2048 _).set = _
  rw [View.set_reshape, View.set_slice_whole, rectO_set]
theorem slotL_set (h) : (slotL k h).view.set = setL k := by
  show (((View.whole cc1_scratch2).slice (rectL k h)).reshape S8x16x8 _).set = _
  rw [View.set_reshape, View.set_slice_whole, rectL_set]

theorem slotO_emb (h) (x : S8x8x2048.Idx) :
    (((slotO k h).view.emb x) 0).val = k ∧ (fun a : Fin 3 => ((slotO k h).view.emb x) a.succ) = x := by
  have e : (slotO k h).view.emb x = (rectO k h).emb (Shape.reshapeEquiv (squeezes_S1x8x8x2048_S8x8x2048).numel_eq x) := rfl
  have e' : Shape.reshapeEquiv (squeezes_S1x8x8x2048_S8x8x2048).numel_eq x = Fin.cons ⟨0, Nat.one_pos⟩ x :=
    Shape.reshapeEquiv_cons_one (d := ![8, 8, 2048]) _ x
  rw [e, e']
  constructor
  · show k + 0 * 1 = k
    omega
  · funext a
    apply Fin.ext
    show (![k, 0, 0, 0] : Fin 4 → ℕ) a.succ + 1 * (x a).val = (x a).val
    have : (![k, 0, 0, 0] : Fin 4 → ℕ) a.succ = 0 := by fin_cases a <;> rfl
    omega
theorem slotL_emb (h) (x : S8x16x8.Idx) :
    (((slotL k h).view.emb x) 0).val = k ∧ (fun a : Fin 3 => ((slotL k h).view.emb x) a.succ) = x := by
  have e : (slotL k h).view.emb x = (rectL k h).emb (Shape.reshapeEquiv (squeezes_S1x8x16x8_S8x16x8).numel_eq x) := rfl
  have e' : Shape.reshapeEquiv (squeezes_S1x8x16x8_S8x16x8).numel_eq x = Fin.cons ⟨0, Nat.one_pos⟩ x :=
    Shape.reshapeEquiv_cons_one (d := ![8, 16, 8]) _ x
  rw [e, e']
  constructor
  · show k + 0 * 1 = k
    omega
  · funext a
    apply Fin.ext
    show (![k, 0, 0, 0] : Fin 4 → ℕ) a.succ + 1 * (x a).val = (x a).val
    have : (![k, 0, 0, 0] : Fin 4 → ℕ) a.succ = 0 := by fin_cases a <;> rfl
    omega

end

variable (o : Dev nD → Vec F S8x8x2048 .f32) (l : Dev nD → Vec F S8x16x8 .f32)

/-- What slot `k` holds when the copies have come in. -/
theorem readO (c : Dev nD) (k : ℕ) (h) : (slotO k h).view.read (Elt F) (OB o c) = o (prv^[k] c) := by
  funext x
  have H := slotO_emb k h x
  show o (prv^[(((slotO k h).view.emb x) 0).val] c) (fun a => ((slotO k h).view.emb x) a.succ) = _
  rw [H.1, H.2]
theorem readL (c : Dev nD) (k : ℕ) (h) : (slotL k h).view.read (Elt F) (LB l c) = l (prv^[k] c) := by
  funext x
  have H := slotL_emb k h x
  show l (prv^[(((slotL k h).view.emb x) 0).val] c) (fun a => ((slotL k h).view.emb x) a.succ) = _
  rw [H.1, H.2]

/-- A write of slot `k`'s value leaves, on the slot, the whole buffer's value. -/
theorem writeO (c : Dev nD) (k : ℕ) (h) (f : Vec F S4x8x8x2048 .f32) (X : Vec F S8x8x2048 .f32) (hX : X = o (prv^[k] c)) :
    ∀ i ∈ setO k, (slotO k h).view.write (Elt F) f X Finset.univ i = OB o c i := by
  intro i hi
  rw [← slotO_set k h] at hi
  obtain ⟨x, -, rfl⟩ := Finset.mem_map.mp hi
  rw [View.write_emb_of_mem _ _ (Finset.mem_univ x)]
  exact ((congrFun hX x).trans (congrFun (readO o c k h) x).symm)
theorem writeL (c : Dev nD) (k : ℕ) (h) (f : Vec F S4x8x16x8 .f32) (X : Vec F S8x16x8 .f32) (hX : X = l (prv^[k] c)) :
    ∀ i ∈ setL k, (slotL k h).view.write (Elt F) f X Finset.univ i = LB l c i := by
  intro i hi
  rw [← slotL_set k h] at hi
  obtain ⟨x, -, rfl⟩ := Finset.mem_map.mp hi
  rw [View.write_emb_of_mem _ _ (Finset.mem_univ x)]
  exact ((congrFun hX x).trans (congrFun (readL l c k h) x).symm)

end Cert.Ring

end
-- ==== Proof.Talk.lean ====
/-
  The steps of the reducing kernel that other devices see, each under the ring's protocol: the two barrier signals, a copy into
  the right neighbour's buffers, the wait on a transfer cell.
-/
module

public import proofs.«01_k».proof.Proof.Slots

@[expose] public section

set_option maxRecDepth 16384

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (o : Dev nD → Vec F S8x8x2048 .f32) (l : Dev nD → Vec F S8x16x8 .f32) (K : GSem nD τ sig → ℕ) (c : Dev nD)

/-- What the core owes, whatever it has waited on. -/
abbrev due (T : CellTallies nD τ sig Unit) : sProp 𝕄 := iprop(∃ W, owes (c : Thread nD τ) T W)

/-- The chains of words that name the devices: the first signal goes to the left, everything else to the right. -/
theorem dev1_eq : (⟨k1_dev1 c, k1_dev1_lt c⟩ : Dev nD) = prv c := by revert c; decide +kernel
theorem dev2_eq : (⟨k1_dev2 c, k1_dev2_lt c⟩ : Dev nD) = nxt c := by revert c; decide +kernel
theorem dev3_eq : (⟨k1_dev3 c, k1_dev3_lt c⟩ : Dev nD) = nxt c := by revert c; decide +kernel
theorem dev4_eq : (⟨k1_dev4 c, k1_dev4_lt c⟩ : Dev nD) = nxt c := by revert c; decide +kernel
theorem dev5_eq : (⟨k1_dev5 c, k1_dev5_lt c⟩ : Dev nD) = nxt c := by revert c; decide +kernel
theorem dev6_eq : (⟨k1_dev6 c, k1_dev6_lt c⟩ : Dev nD) = nxt c := by revert c; decide +kernel
theorem dev7_eq : (⟨k1_dev7 c, k1_dev7_lt c⟩ : Dev nD) = nxt c := by revert c; decide +kernel
theorem dev8_eq : (⟨k1_dev8 c, k1_dev8_lt c⟩ : Dev nD) = nxt c := by revert c; decide +kernel

section Copy

variable (n : Dev nD) (hn : n = nxt c) (k k' : ℕ) (hk : k < 3) (hk' : k' = k + 1) (T O : CellTallies nD τ sig Unit)
  (sS sR : DmaSem sig)
include hn hk'

/-- A copy of slot `k` of the weighted sums into slot `k + 1` of the right neighbour. -/
theorem wp_sendO (hS : sS = dsem ⟨k, by omega⟩) (hR : sR = dsem ⟨3 + k, by omega⟩)
    (hO : O = T + tallyAt (cell (nxt c) ⟨3 + k, by omega⟩) () No) {i i'}
    {hsc : (slotO k' i' : Memref sig (Dev.tc n : Thread nD τ).2.kind .vmem S8x8x2048 .f32).view.ref.isScScratch = false}
    {hsrc : (slotO k i).view.WordExact} {hdst : (slotO k' i').view.WordExact}
    {hsem : DmaTarget.Typed .vmem (.dma sR)
      (.remote (Dev.tc n : Thread nD τ) (slotO k' i' : Memref sig .tc .vmem S8x8x2048 .f32) (.dma sS) hsc)}
    {α : Type} {Q : α → sProp 𝕄} {kk : PUnit → Prog (TpuEff nD τ sig (Elt F) Λ₀ .tc) α} :
    iprop(cellInv ER (ringRd o l) (K (cell c ⟨k, by omega⟩)) (cell c ⟨k, by omega⟩)
        ∗ cellInv ER (ringRd o l) (K (cell (nxt c) ⟨3 + k, by omega⟩)) (cell (nxt c) ⟨3 + k, by omega⟩)
        ∗ oPt c k (OB o c) ∗ (∃ f, oPt (nxt c) k' f) ∗ due c O
        ∗ dutyTok ER (cell c ⟨k, by omega⟩) 0 false ∗ reached ER (cell c ⟨k, by omega⟩) 0
        ∗ dutyTok ER (cell (nxt c) ⟨3 + k, by omega⟩) 0 false ∗ reached ER (cell (nxt c) ⟨3 + k, by omega⟩) 0)
      ⊢ iprop(((cred (tallyAt (cell c ⟨k, by omega⟩) () No) ∗ due c T)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (slotO k i) (.remote (Dev.tc n : Thread nD τ) (slotO k' i') (.dma sS) hsc) (.dma sR) hsrc hdst hsem) kk) Q) := by
  subst hn hk' hS hR
  have hlt₁ : k < 12 := by omega
  have hlt₂ : 3 + k < 12 := by omega
  iintro ⟨#HiS, #HiR, Hs, ⟨%fd, Hd⟩, ⟨%W, Ho⟩, HtS, #HrS, HtR, #HrR⟩ Hk
  iapply (Rounds.wp_send_pointsTo 𝒱₀ ER (ringRd o l) (c : Thread nD τ) none (c' := (nxt c : Thread nD τ)) (src := slotO k i) (dst := slotO (k + 1) i')
      (sS := .dma (dsem ⟨k, hlt₁⟩)) (sem := .dma (dsem ⟨3 + k, hlt₂⟩)) (q := fullShare) (fs := OB o c)
      (κ₁ := K (cell c ⟨k, by omega⟩)) (κ₂ := K (cell (nxt c) ⟨3 + k, by omega⟩))
      (r₁ := 0) (r₂ := 0) (d₁ := false) (d₂ := false) (fd := fd)
      (by rw [duties_cell]; exact Finset.mem_singleton_self _) (by rw [duties_cell]; exact Finset.mem_singleton_self _)
      () () No rfl ((amount_cell o l c _ _).trans (if_pos (by show k < 6; omega))) ((amount_cell o l _ _ _).trans (if_pos (by show 3 + k < 6; omega)))
      T hO (W := W)
      (by
        rw [payload_cell]; unfold xferPay oPt; rw [if_pos (by show 13 + k < 16; omega), slotO_set]
        rw [show 13 + k - 13 = k by omega])
      (by
        rw [payload_cell]; unfold xferPay oPt
        rw [if_neg (by show ¬ 13 + (3 + k) < 16; omega), if_pos (by show 13 + (3 + k) < 19; omega), slotO_set]
        rw [show 13 + (3 + k) - 15 = k + 1 by omega]
        refine Entails.of_eq (pointsTo_congr (writeO o (nxt c) (k + 1) i' fd _ ?_))
        rw [readO, Function.iterate_succ_apply, prv_nxt])) $$ [Hs Hd Ho HtS HtR]
  · isplitr; · iexact HiS
    isplitr; · iexact HiR
    isplitl [Hs]; · unfold oPt; rw [slotO_set]; iexact Hs
    isplitl [Hd]; · unfold oPt; rw [slotO_set]; iexact Hd
    isplitl [Ho]; · iexact Ho
    isplitl [HtS]; · iexact HtS
    isplitr; · iexact HrS
    isplitl [HtR]; · iexact HtR
    iexact HrR
  iintro ⟨Hc, Ho⟩
  iapply Hk
  isplitl [Hc]; · iexact Hc
  iexists W; iexact Ho

/-- And of slot `k` of the sums of weights. -/
theorem wp_sendL (hS : sS = dsem ⟨6 + k, by omega⟩) (hR : sR = dsem ⟨9 + k, by omega⟩)
    (hO : O = T + tallyAt (cell (nxt c) ⟨9 + k, by omega⟩) () Nl) {i i'}
    {hsc : (slotL k' i' : Memref sig (Dev.tc n : Thread nD τ).2.kind .vmem S8x16x8 .f32).view.ref.isScScratch = false}
    {hsrc : (slotL k i).view.WordExact} {hdst : (slotL k' i').view.WordExact}
    {hsem : DmaTarget.Typed .vmem (.dma sR)
      (.remote (Dev.tc n : Thread nD τ) (slotL k' i' : Memref sig .tc .vmem S8x16x8 .f32) (.dma sS) hsc)}
    {α : Type} {Q : α → sProp 𝕄} {kk : PUnit → Prog (TpuEff nD τ sig (Elt F) Λ₀ .tc) α} :
    iprop(cellInv ER (ringRd o l) (K (cell c ⟨6 + k, by omega⟩)) (cell c ⟨6 + k, by omega⟩)
        ∗ cellInv ER (ringRd o l) (K (cell (nxt c) ⟨9 + k, by omega⟩)) (cell (nxt c) ⟨9 + k, by omega⟩)
        ∗ lPt c k (LB l c) ∗ (∃ f, lPt (nxt c) k' f) ∗ due c O
        ∗ dutyTok ER (cell c ⟨6 + k, by omega⟩) 0 false ∗ reached ER (cell c ⟨6 + k, by omega⟩) 0
        ∗ dutyTok ER (cell (nxt c) ⟨9 + k, by omega⟩) 0 false ∗ reached ER (cell (nxt c) ⟨9 + k, by omega⟩) 0)
      ⊢ iprop(((cred (tallyAt (cell c ⟨6 + k, by omega⟩) () Nl) ∗ due c T)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (slotL k i) (.remote (Dev.tc n : Thread nD τ) (slotL k' i') (.dma sS) hsc) (.dma sR) hsrc hdst hsem) kk) Q) := by
  subst hn hk' hS hR
  have hlt₁ : 6 + k < 12 := by omega
  have hlt₂ : 9 + k < 12 := by omega
  iintro ⟨#HiS, #HiR, Hs, ⟨%fd, Hd⟩, ⟨%W, Ho⟩, HtS, #HrS, HtR, #HrR⟩ Hk
  iapply (Rounds.wp_send_pointsTo 𝒱₀ ER (ringRd o l) (c : Thread nD τ) none (c' := (nxt c : Thread nD τ)) (src := slotL k i) (dst := slotL (k + 1) i')
      (sS := .dma (dsem ⟨6 + k, hlt₁⟩)) (sem := .dma (dsem ⟨9 + k, hlt₂⟩)) (q := fullShare) (fs := LB l c)
      (κ₁ := K (cell c ⟨6 + k, by omega⟩)) (κ₂ := K (cell (nxt c) ⟨9 + k, by omega⟩))
      (r₁ := 0) (r₂ := 0) (d₁ := false) (d₂ := false) (fd := fd)
      (by rw [duties_cell]; exact Finset.mem_singleton_self _) (by rw [duties_cell]; exact Finset.mem_singleton_self _)
      () () Nl rfl ((amount_cell o l c _ _).trans (if_neg (by show ¬ 6 + k < 6; omega))) ((amount_cell o l _ _ _).trans (if_neg (by show ¬ 9 + k < 6; omega)))
      T hO (W := W)
      (by
        rw [payload_cell]; unfold xferPay lPt
        rw [if_neg (by show ¬ 13 + (6 + k) < 16; omega), if_neg (by show ¬ 13 + (6 + k) < 19; omega), if_pos (by show 13 + (6 + k) < 22; omega),
          slotL_set]
        rw [show 13 + (6 + k) - 19 = k by omega])
      (by
        rw [payload_cell]; unfold xferPay lPt
        rw [if_neg (by show ¬ 13 + (9 + k) < 16; omega), if_neg (by show ¬ 13 + (9 + k) < 19; omega), if_neg (by show ¬ 13 + (9 + k) < 22; omega),
          slotL_set]
        rw [show 13 + (9 + k) - 21 = k + 1 by omega]
        refine Entails.of_eq (pointsTo_congr (writeL l (nxt c) (k + 1) i' fd _ ?_))
        rw [readL, Function.iterate_succ_apply, prv_nxt])) $$ [Hs Hd Ho HtS HtR]
  · isplitr; · iexact HiS
    isplitr; · iexact HiR
    isplitl [Hs]; · unfold lPt; rw [slotL_set]; iexact Hs
    isplitl [Hd]; · unfold lPt; rw [slotL_set]; iexact Hd
    isplitl [Ho]; · iexact Ho
    isplitl [HtS]; · iexact HtS
    isplitr; · iexact HrS
    isplitl [HtR]; · iexact HtR
    iexact HrR
  iintro ⟨Hc, Ho⟩
  iapply Hk
  isplitl [Hc]; · iexact Hc
  iexists W; iexact Ho

end Copy

/-- The wait on transfer cell `j`: its slot comes back, and its counter, at zero, for the cell's one round is over. -/
theorem wp_waitX (j : Fin 12) (s : DmaSem sig) (hs : s = dsem j) (T : CellTallies nD τ sig Unit) (hT : Above (lvs (osem1 j)) T)
    {sh : Shape} {sp sp' : Space} {src : Memref sig .tc sp sh .f32} {dst : Memref sig .tc sp' sh .f32} (hN : dst.view.dmaCredit = amt j)
    {hsrc : src.view.WordExact} {hdst : dst.view.WordExact}
    {α : Type} {Q : α → sProp 𝕄} {kk : PUnit → Prog (TpuEff nD τ sig (Elt F) Λ₀ .tc) α} :
    iprop(cellInv ER (ringRd o l) (K (cell c j)) (cell c j) ∗ cred (tallyAt (cell c j) () (amt j)) ∗ due c T ∗ levAts L lv
        ∗ atPos ER (cell c j) 0 ∅ 0)
      ⊢ iprop(((due c T ∗ semVal (cell c j) 0 ∗ xferPay o l c (13 + j.val))
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 s src dst hsrc hdst) kk) Q) := by
  subst hs
  iintro ⟨#Hi, Hc, ⟨%W, Ho⟩, #Hl, Ha⟩ Hk
  iapply (Rounds.wp_wait_rest_token 𝒱₀ ER (ringRd o l) (c : Thread nD τ) none (κ := K (cell c j))
      (wpE_waitDma2_eq 𝒱₀ (c : Thread nD τ) none Set.univ) (Set.mem_univ _) () (O := T) (W := W) (R := 0) (m := 0) (T := ∅)
      (by rw [hN, Nat.zero_add]; exact (expect_cell o l c j).symm)) $$ [Hc Ho Ha]
  · isplitr; · iexact Hi
    isplitl [Hc]; · rw [hN]; iexact Hc
    isplitl [Ho]; · iexact Ho
    isplitr; · iapply (mayWait c (osem1 j) T hT); iexact Hl
    iexact Ha
  iintro ⟨Ho, Ha, -, Hp⟩
  ihave Hp := (Entails.of_eq (rest_cell o l c j)) $$ Hp
  imod (close o l (K (cell c j)) (cell c j)) $$ [Ha] with Hz
  · isplitr; · iexact Hi
    iexact Ha
  iapply Hk
  isplitl [Ho]; · iexists _; iexact Ho
  isplitl [Hz]; · iexact Hz
  iexact Hp

/-- The unit to the left neighbour's barrier cell: with it go the device's own landing slots. -/
theorem wp_sigL (n : Dev nD) (hn : n = prv c) {kw : ℕ} (hkw : kw = 1)
    {α : Type} {Q : α → sProp 𝕄} {kk : PUnit → Prog (TpuEff nD τ sig (Elt F) Λ₀ .tc) α} :
    iprop(cellInv ER (ringRd o l) (K (barCell (prv c))) (barCell (prv c)) ∗ due c (T8 c) ∗ dutyTok ER (barCell (prv c)) 0 true
        ∗ barPay (prv c) ∗ reached ER (barCell (prv c)) 0)
      ⊢ iprop((due c (T7 c) -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n : Thread nD τ) barS kw) kk) Q) := by
  subst hn hkw
  iintro ⟨#Hi, ⟨%W, Ho⟩, Ht, Hp, #Hr⟩ Hk
  iapply (Rounds.wp_signal 𝒱₀ ER (ringRd o l) (c : Thread nD τ) none (dst := (prv c : Thread nD τ)) (sem := barS) (r := 0) (d := true)
      (κ := K (barCell (prv c))) (by rw [duties_bar]; exact Finset.mem_univ _) (amount_bar o l (prv c) true) () (T7 c) rfl) $$ [Ho Ht Hp]
  · isplitr; · iexact Hi
    isplitl [Ho]; · iexact Ho
    isplitl [Ht]; · iexact Ht
    isplitl [Hp]; · rw [payload_bar_true]; iexact Hp
    iexact Hr
  iintro Ho
  iapply Hk; iexists W; iexact Ho
/-- The unit to the right neighbour's, with nothing. -/
theorem wp_sigR (n : Dev nD) (hn : n = nxt c) {kw : ℕ} (hkw : kw = 1)
    {α : Type} {Q : α → sProp 𝕄} {kk : PUnit → Prog (TpuEff nD τ sig (Elt F) Λ₀ .tc) α} :
    iprop(cellInv ER (ringRd o l) (K (barCell (nxt c))) (barCell (nxt c)) ∗ due c (T7 c) ∗ dutyTok ER (barCell (nxt c)) 0 false
        ∗ reached ER (barCell (nxt c)) 0)
      ⊢ iprop((due c (T6 c) -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n : Thread nD τ) barS kw) kk) Q) := by
  subst hn hkw
  iintro ⟨#Hi, ⟨%W, Ho⟩, Ht, #Hr⟩ Hk
  iapply (Rounds.wp_signal 𝒱₀ ER (ringRd o l) (c : Thread nD τ) none (dst := (nxt c : Thread nD τ)) (sem := barS) (r := 0) (d := false)
      (κ := K (barCell (nxt c))) (by rw [duties_bar]; exact Finset.mem_univ _) (amount_bar o l (nxt c) false) () (T6 c) rfl) $$ [Ho Ht]
  · isplitr; · iexact Hi
    isplitl [Ho]; · iexact Ho
    isplitl [Ht]; · iexact Ht
    isplitr; · rw [payload_bar_false]; iempintro
    iexact Hr
  iintro Ho
  iapply Hk; iexists W; iexact Ho
/-- The wait for both: the right neighbour's landing slots come. -/
theorem wp_waitB {kw : ℕ} (hkw : kw = 2) {α : Type} {Q : α → sProp 𝕄} {kk : PUnit → Prog (TpuEff nD τ sig (Elt F) Λ₀ .tc) α} :
    iprop(cellInv ER (ringRd o l) (K (barCell c)) (barCell c) ∗ cred (tallyAt (barCell c) () 2) ∗ due c (T6 c) ∗ levAts L lv
        ∗ atPos ER (barCell c) 0 ∅ 0)
      ⊢ iprop(((due c (T6 c) ∗ semVal (barCell c) 0 ∗ barPay c)
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS kw) kk) Q) := by
  subst hkw
  iintro ⟨#Hi, Hc, ⟨%W, Ho⟩, #Hl, Ha⟩ Hk
  iapply (Rounds.wp_wait_rest_token 𝒱₀ ER (ringRd o l) (c : Thread nD τ) none (κ := K (barCell c))
      (wpE_semWait_eq 𝒱₀ (c : Thread nD τ) none Set.univ) (Set.mem_univ _) () (O := T6 c) (W := W) (R := 0) (m := 0) (T := ∅)
      (by rw [Nat.zero_add]; exact (expect_bar o l c).symm)) $$ [Hc Ho Ha]
  · isplitr; · iexact Hi
    isplitl [Hc]; · iexact Hc
    isplitl [Ho]; · iexact Ho
    isplitr; · iapply (mayWait c (.reg barS) (T6 c) (above6 1 (by decide) c)); iexact Hl
    iexact Ha
  iintro ⟨Ho, Ha, -, Hp⟩
  ihave Hp := (rest_bar o l c) $$ Hp
  imod (close o l (K (barCell c)) (barCell c)) $$ [Ha] with Hz
  · isplitr; · iexact Hi
    iexact Ha
  iapply Hk
  isplitl [Ho]; · iexists _; iexact Ho
  isplitl [Hz]; · iexact Hz
  iexact Hp

end Cert.Ring

end
-- ==== Proof.Steps.lean ====
module

public import proofs.«01_k».proof.Proof.Talk
public import Idealize.ShloMosaic.Lib.PointwiseCore

@[expose] public section

set_option maxRecDepth 16384

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (o : Dev nD → Vec F S8x8x2048 .f32) (l : Dev nD → Vec F S8x16x8 .f32) (c : Dev nD)

/-! ## The staging buffers and the accumulators -/

abbrev xM : Memref sig .tc .vmem S8x8x2048 .f32 := Memref.whole cc1_stg0_0
abbrev yM : Memref sig .tc .vmem S8x16x8 .f32 := Memref.whole cc1_stg1_0
abbrev aM : Memref sig .tc .vmem S8x8x2048 .f32 := Memref.whole cc1_stg2_0
abbrev bM : Memref sig .tc .vmem S8x16x8 .f32 := Memref.whole cc1_scratch0

abbrev fullA : Rect S8x8x2048 := Rect.unit (s := S8x8x2048) ![0, 0, 0] S8x8x2048.size inb_S8x8x2048_S8x8x2048_0_0_0
abbrev fullB : Rect S8x16x8 := Rect.unit (s := S8x16x8) ![0, 0, 0] S8x16x8.size inb_S8x16x8_S8x16x8_0_0_0

theorem hz3 : (![0, 0, 0] : Fin 3 → ℕ) = fun _ => 0 := by funext a; fin_cases a <;> rfl

theorem loadO_sub (k : ℕ) (h) : oM.view.setOn (rectO k h).toLoadRect.set ⊆ setO k := by
  rw [← rectO_set k h]
  intro i hi
  obtain ⟨x, hx, rfl⟩ := Finset.mem_map.mp hi
  exact hx
theorem loadL_sub (k : ℕ) (h) : lM.view.setOn (rectL k h).toLoadRect.set ⊆ setL k := by
  rw [← rectL_set k h]
  intro i hi
  obtain ⟨x, hx, rfl⟩ := Finset.mem_map.mp hi
  exact hx

theorem storeO_sub (k : ℕ) (h) : (oM.access (rectO k h)).setOn Finset.univ ⊆ setO k := by
  rw [← rectO_set k h]
  intro i hi
  obtain ⟨x, -, rfl⟩ := Finset.mem_map.mp hi
  exact LoadRect.idx_mem (rectO k h).toLoadRect x
theorem storeL_sub (k : ℕ) (h) : (lM.access (rectL k h)).setOn Finset.univ ⊆ setL k := by
  rw [← rectL_set k h]
  intro i hi
  obtain ⟨x, -, rfl⟩ := Finset.mem_map.mp hi
  exact LoadRect.idx_mem (rectL k h).toLoadRect x

/-- The stores of the device's own partial results into slot 0. -/
theorem storeO (h) (f : Vec F S4x8x8x2048 .f32) (w : Vec F S1x8x8x2048 .f32)
    (hw : w = shapeCast S1x8x8x2048 (o c) shapeCasts_S8x8x2048_S1x8x8x2048) :
    ∀ i ∈ setO 0, (oM.access (rectO 0 h)).write (Elt F) f w Finset.univ i = OB o c i := by
  have e : (oM.access (rectO 0 h)).write (Elt F) f w Finset.univ = (slotO 0 h).view.write (Elt F) f (o c) Finset.univ := by
    rw [hw]
    exact (((View.whole cc1_scratch1).slice (rectO 0 h)).write_reshape_univ
      (squeezes_S1x8x8x2048_S8x8x2048).numel_eq f (o c)).symm
  rw [e]
  exact writeO o c 0 h f _ rfl
theorem storeL (h) (f : Vec F S4x8x16x8 .f32) (w : Vec F S1x8x16x8 .f32)
    (hw : w = shapeCast S1x8x16x8 (l c) shapeCasts_S8x16x8_S1x8x16x8) :
    ∀ i ∈ setL 0, (lM.access (rectL 0 h)).write (Elt F) f w Finset.univ i = LB l c i := by
  have e : (lM.access (rectL 0 h)).write (Elt F) f w Finset.univ = (slotL 0 h).view.write (Elt F) f (l c) Finset.univ := by
    rw [hw]
    exact (((View.whole cc1_scratch2).slice (rectL 0 h)).write_reshape_univ
      (squeezes_S1x8x16x8_S8x16x8).numel_eq f (l c)).symm
  rw [e]
  exact writeL l c 0 h f _ rfl

/-! ## The divisions -/

/-- Where the sum of weights lies that divides element `j`. -/
def lIx (j : S8x8x2048.Idx) : S8x16x8.Idx := fun a => match a with
  | 0 => j 0
  | 1 => (⟨(j 2).val / 128, by have : (j 2).val < 2048 := (j 2).isLt; omega⟩ : Fin 16)
  | 2 => j 1

/-- All heads divided. -/
def divO (A : Vec F S8x8x2048 .f32) (B : Vec F S8x16x8 .f32) : Vec F S8x8x2048 .f32 := divf A fun j => B (lIx j)

/-- The first `m` heads divided. -/
def mix (m : ℕ) (A : Vec F S8x8x2048 .f32) (B : Vec F S8x16x8 .f32) : Vec F S8x8x2048 .f32 := fun j =>
  if (j 2).val / 128 < m then divO A B j else A j

theorem mix_zero (A : Vec F S8x8x2048 .f32) (B : Vec F S8x16x8 .f32) : mix 0 A B = A := funext fun j => if_neg (Nat.not_lt_zero _)
theorem mix_last (A : Vec F S8x8x2048 .f32) (B : Vec F S8x16x8 .f32) : mix 16 A B = divO A B :=
  funext fun j => if_pos (by have : (j 2).val < 2048 := (j 2).isLt; omega)

abbrev rectC (off : ℕ) (h : ∀ a, (![0, 0, off] : Fin 3 → ℕ) a + S8x8x128.size a ≤ S8x8x2048.size a) : Rect S8x8x2048 :=
  Rect.unit (s := S8x8x2048) ![0, 0, off] S8x8x128.size h
abbrev rectR (m : ℕ) (h : ∀ a, (![0, m, 0] : Fin 3 → ℕ) a + S8x1x8.size a ≤ S8x16x8.size a) : Rect S8x16x8 :=
  Rect.unit (s := S8x16x8) ![0, m, 0] S8x1x8.size h

/-- The row of a head's sums, at the index of an element of the head. -/
def rIx (x : S8x8x128.Idx) : S8x1x8.Idx := fun a => match a with
  | 0 => x 0
  | 1 => (⟨0, Nat.one_pos⟩ : Fin 1)
  | 2 => x 1

theorem pay_apply (v : Vec F S8x8x128 .f32) (w : Vec F S8x1x8 .f32) :
    k1_pay12 v w = divf v fun x => w (rIx x) := by
  funext x
  idx_vars x
  pointwise [k1_pay12, rIx]
  refine congrArg (fun i => FloatOps.divf (v (ix3 x0 x1 x2)) (w i)) (funext fun a => ?_)
  match a with
  | 0 => rfl
  | 1 => rfl
  | 2 => rfl

theorem mix_step (m off : ℕ) (hoff : off = 128 * m) (h) (h') (A : Vec F S8x8x2048 .f32) (B : Vec F S8x16x8 .f32) :
    (aM.access (rectC off h)).write (Elt F) (mix m A B)
      (divf (aM.view.readAt (Elt F) (rectC off h).toLoadRect (mix m A B))
        fun x => bM.view.readAt (Elt F) (rectR m h').toLoadRect B (rIx x)) Finset.univ
      = mix (m + 1) A B := by
  subst hoff
  funext i
  by_cases hi : i ∈ (rectC (128 * m) h).set
  · obtain ⟨x, rfl⟩ : ∃ x, (rectC (128 * m) h).emb x = i := (rectC (128 * m) h).exists_idx_of_mem hi
    have e2 : ((rectC (128 * m) h).emb x 2).val = 128 * m + 1 * (x 2).val := rfl
    have hx : (x 2).val < 128 := (x 2).isLt
    refine (View.write_emb_of_mem (v := aM.access (rectC (128 * m) h)) (mix m A B) _ (Finset.mem_univ x)).trans ?_
    have hm : ((rectC (128 * m) h).emb x 2).val / 128 = m := by omega
    show FloatOps.divf (mix m A B ((rectC (128 * m) h).emb x)) (B ((rectR m h').emb (rIx x))) = mix (m + 1) A B ((rectC (128 * m) h).emb x)
    unfold mix
    rw [if_neg (by omega), if_pos (by omega)]
    refine congrArg (fun j => FloatOps.divf (A ((rectC (128 * m) h).emb x)) (B j)) (funext fun a => Fin.ext ?_)
    match a with
    | 0 => rfl
    | 1 => show m + 1 * 0 = ((rectC (128 * m) h).emb x 2).val / 128; omega
    | 2 => rfl
  · refine (View.write_of_not_mem (v := aM.access (rectC (128 * m) h)) (mix m A B) _ _ ?_).trans ?_
    · intro hc; apply hi
      obtain ⟨x, -, rfl⟩ := Finset.mem_map.mp hc
      exact LoadRect.idx_mem (rectC (128 * m) h).toLoadRect x
    · have hno : ¬ (i 2).val / 128 = m := fun hb => hi (by
        have i0 : (i 0).val < 8 := (i 0).isLt
        have i1 : (i 1).val < 8 := (i 1).isLt
        refine Rect.mem_set_unit.mpr fun a => ?_
        match a with
        | 0 => exact ⟨Nat.zero_le _, by show _ < 0 + 8; omega⟩
        | 1 => exact ⟨Nat.zero_le _, by show _ < 0 + 8; omega⟩
        | 2 => exact ⟨by show 128 * m ≤ (i 2).val; omega, by show (i 2).val < 128 * m + 128; omega⟩)
      unfold mix
      by_cases hlt : (i 2).val / 128 < m
      · rw [if_pos hlt, if_pos (by omega)]
      · rw [if_neg hlt, if_neg (by omega)]

/-! ## Reads and writes of whole buffers, and of a slot -/

theorem rdX (f : Vec F S8x8x2048 .f32) : xM.view.readAt (Elt F) fullA.toLoadRect f = f := Memref.readAt_unit_zero (Elt F) cc1_stg0_0 hz3 _ f
theorem rdY (f : Vec F S8x16x8 .f32) : yM.view.readAt (Elt F) fullB.toLoadRect f = f := Memref.readAt_unit_zero (Elt F) cc1_stg1_0 hz3 _ f
theorem rdA (f : Vec F S8x8x2048 .f32) : aM.view.readAt (Elt F) fullA.toLoadRect f = f := Memref.readAt_unit_zero (Elt F) cc1_stg2_0 hz3 _ f
theorem rdB (f : Vec F S8x16x8 .f32) : bM.view.readAt (Elt F) fullB.toLoadRect f = f := Memref.readAt_unit_zero (Elt F) cc1_scratch0 hz3 _ f
theorem wrA (f w : Vec F S8x8x2048 .f32) : (aM.access fullA).write (Elt F) f w Finset.univ = w :=
  Memref.write_access_unit_zero_univ (Elt F) cc1_stg2_0 hz3 _ f w
theorem wrB (f w : Vec F S8x16x8 .f32) : (bM.access fullB).write (Elt F) f w Finset.univ = w :=
  Memref.write_access_unit_zero_univ (Elt F) cc1_scratch0 hz3 _ f w
theorem rdO (k : ℕ) (h) : shapeCast S8x8x2048 (oM.view.readAt (Elt F) (rectO k h).toLoadRect (OB o c)) shapeCasts_S1x8x8x2048_S8x8x2048
    = o (prv^[k] c) := readO o c k h
theorem rdL (k : ℕ) (h) : shapeCast S8x16x8 (lM.view.readAt (Elt F) (rectL k h).toLoadRect (LB l c)) shapeCasts_S1x8x16x8_S8x16x8
    = l (prv^[k] c) := readL l c k h

/-! ## The steps -/

section Acc

theorem wp_accO {α : Type} {Q : α → sProp 𝕄} {kk : PUnit → Prog (TpuEff nD τ sig (Elt F) Λ₀ .tc) α}
    (k : ℕ) (h) (P : Vec F S8x8x2048 .f32 → Vec F S1x8x8x2048 .f32 → Vec F S8x8x2048 .f32)
    (hP : ∀ v w, P v w = addf v (shapeCast S8x8x2048 w shapeCasts_S1x8x8x2048_S8x8x2048)) (X : Vec F S8x8x2048 .f32)
    {h1 : aM.view.LoadsAt fullA.toLoadRect} {h2 : oM.view.LoadsAt (rectO k h).toLoadRect} {h3 : aM.view.LoadsAt fullA.toLoadRect}
    {h4 : (aM.access fullA).Stores Finset.univ} {h5 : (Finset.univ : Finset fullA.shape.Idx) = Finset.univ ∨ ∀ a, fullA.stride a = 1} :
    iprop(ptM c aM X ∗ oPt c k (OB o c))
      ⊢ iprop(((ptM c aM (addf X (o (prv^[k] c))) ∗ oPt c k (OB o c))
            -∗ wp frame (wpE (defs₀ (F := F)) 𝒱₀ (c : Thread nD τ) none) Set.univ (kk ⟨⟩) Q)
          -∗ wp frame (wpE (defs₀ (F := F)) 𝒱₀ (c : Thread nD τ) none) Set.univ
            (.op (.load aM fullA.toLoadRect h1) fun v => .op (.load oM (rectO k h).toLoadRect h2) fun w =>
              .op (.load aM fullA.toLoadRect h3) fun _ => .op (.store aM fullA (P v w) Finset.univ h4 h5) kk) Q) := by
  unfold oPt
  iintro ⟨HA, HO⟩ Hk
  iapply (wp_load 𝒱₀ (c : Thread nD τ) none Set.univ (m := aM) (Finset.subset_univ _)) $$ HA; iintro HA
  iapply (wp_load 𝒱₀ (c : Thread nD τ) none Set.univ (m := oM) (loadO_sub k h)) $$ HO; iintro HO
  iapply (wp_load 𝒱₀ (c : Thread nD τ) none Set.univ (m := aM) (Finset.subset_univ _)) $$ HA; iintro HA
  iapply (wp_store 𝒱₀ (c : Thread nD τ) none Set.univ (m := aM) (r := fullA) (Mk := Finset.univ) (Finset.subset_univ _)) $$ HA; iintro HA
  rw [hP, rdO, rdA, wrA]
  iapply Hk
  isplitl [HA]; · iexact HA
  iexact HO

theorem wp_accL {α : Type} {Q : α → sProp 𝕄} {kk : PUnit → Prog (TpuEff nD τ sig (Elt F) Λ₀ .tc) α}
    (k : ℕ) (h) (P : Vec F S8x16x8 .f32 → Vec F S1x8x16x8 .f32 → Vec F S8x16x8 .f32)
    (hP : ∀ v w, P v w = addf v (shapeCast S8x16x8 w shapeCasts_S1x8x16x8_S8x16x8)) (X : Vec F S8x16x8 .f32)
    {h1 : bM.view.LoadsAt fullB.toLoadRect} {h2 : lM.view.LoadsAt (rectL k h).toLoadRect} {h3 : bM.view.LoadsAt fullB.toLoadRect}
    {h4 : (bM.access fullB).Stores Finset.univ} {h5 : (Finset.univ : Finset fullB.shape.Idx) = Finset.univ ∨ ∀ a, fullB.stride a = 1} :
    iprop(ptM c bM X ∗ lPt c k (LB l c))
      ⊢ iprop(((ptM c bM (addf X (l (prv^[k] c))) ∗ lPt c k (LB l c))
            -∗ wp frame (wpE (defs₀ (F := F)) 𝒱₀ (c : Thread nD τ) none) Set.univ (kk ⟨⟩) Q)
          -∗ wp frame (wpE (defs₀ (F := F)) 𝒱₀ (c : Thread nD τ) none) Set.univ
            (.op (.load bM fullB.toLoadRect h1) fun v => .op (.load lM (rectL k h).toLoadRect h2) fun w =>
              .op (.load bM fullB.toLoadRect h3) fun _ => .op (.store bM fullB (P v w) Finset.univ h4 h5) kk) Q) := by
  unfold lPt
  iintro ⟨HA, HO⟩ Hk
  iapply (wp_load 𝒱₀ (c : Thread nD τ) none Set.univ (m := bM) (Finset.subset_univ _)) $$ HA; iintro HA
  iapply (wp_load 𝒱₀ (c : Thread nD τ) none Set.univ (m := lM) (loadL_sub k h)) $$ HO; iintro HO
  iapply (wp_load 𝒱₀ (c : Thread nD τ) none Set.univ (m := bM) (Finset.subset_univ _)) $$ HA; iintro HA
  iapply (wp_store 𝒱₀ (c : Thread nD τ) none Set.univ (m := bM) (r := fullB) (Mk := Finset.univ) (Finset.subset_univ _)) $$ HA; iintro HA
  rw [hP, rdL, rdB, wrB]
  iapply Hk
  isplitl [HA]; · iexact HA
  iexact HO

/-- The first stores: the accumulator takes the device's own partial result, and so does slot 0. -/
theorem wp_setO {α : Type} {Q : α → sProp 𝕄} {kk : PUnit → Prog (TpuEff nD τ sig (Elt F) Λ₀ .tc) α}
    (P : Vec F S8x8x2048 .f32 → Vec F S8x8x2048 .f32) (hP : ∀ v, P v = v)
    {h1 : xM.view.LoadsAt fullA.toLoadRect} {h2 : aM.view.LoadsAt fullA.toLoadRect}
    {h4 : (aM.access fullA).Stores Finset.univ} {h5 : (Finset.univ : Finset fullA.shape.Idx) = Finset.univ ∨ ∀ a, fullA.stride a = 1} :
    iprop(ptM c xM (o c) ∗ (∃ X, ptM c aM X))
      ⊢ iprop(((ptM c xM (o c) ∗ ptM c aM (o c))
            -∗ wp frame (wpE (defs₀ (F := F)) 𝒱₀ (c : Thread nD τ) none) Set.univ (kk ⟨⟩) Q)
          -∗ wp frame (wpE (defs₀ (F := F)) 𝒱₀ (c : Thread nD τ) none) Set.univ
            (.op (.load xM fullA.toLoadRect h1) fun v => .op (.load aM fullA.toLoadRect h2) fun _ =>
              .op (.store aM fullA (P v) Finset.univ h4 h5) kk) Q) := by
  iintro ⟨HX, ⟨%X, HA⟩⟩ Hk
  iapply (wp_load 𝒱₀ (c : Thread nD τ) none Set.univ (m := xM) (Finset.subset_univ _)) $$ HX; iintro HX
  iapply (wp_load 𝒱₀ (c : Thread nD τ) none Set.univ (m := aM) (Finset.subset_univ _)) $$ HA; iintro HA
  iapply (wp_store 𝒱₀ (c : Thread nD τ) none Set.univ (m := aM) (r := fullA) (Mk := Finset.univ) (Finset.subset_univ _)) $$ HA; iintro HA
  rw [hP, rdX, wrA]
  iapply Hk
  isplitl [HX]; · iexact HX
  iexact HA
theorem wp_setL {α : Type} {Q : α → sProp 𝕄} {kk : PUnit → Prog (TpuEff nD τ sig (Elt F) Λ₀ .tc) α}
    (P : Vec F S8x16x8 .f32 → Vec F S8x16x8 .f32) (hP : ∀ v, P v = v)
    {h1 : yM.view.LoadsAt fullB.toLoadRect} {h2 : bM.view.LoadsAt fullB.toLoadRect}
    {h4 : (bM.access fullB).Stores Finset.univ} {h5 : (Finset.univ : Finset fullB.shape.Idx) = Finset.univ ∨ ∀ a, fullB.stride a = 1} :
    iprop(ptM c yM (l c) ∗ (∃ X, ptM c bM X))
      ⊢ iprop(((ptM c yM (l c) ∗ ptM c bM (l c))
            -∗ wp frame (wpE (defs₀ (F := F)) 𝒱₀ (c : Thread nD τ) none) Set.univ (kk ⟨⟩) Q)
          -∗ wp frame (wpE (defs₀ (F := F)) 𝒱₀ (c : Thread nD τ) none) Set.univ
            (.op (.load yM fullB.toLoadRect h1) fun v => .op (.load bM fullB.toLoadRect h2) fun _ =>
              .op (.store bM fullB (P v) Finset.univ h4 h5) kk) Q) := by
  iintro ⟨HX, ⟨%X, HA⟩⟩ Hk
  iapply (wp_load 𝒱₀ (c : Thread nD τ) none Set.univ (m := yM) (Finset.subset_univ _)) $$ HX; iintro HX
  iapply (wp_load 𝒱₀ (c : Thread nD τ) none Set.univ (m := bM) (Finset.subset_univ _)) $$ HA; iintro HA
  iapply (wp_store 𝒱₀ (c : Thread nD τ) none Set.univ (m := bM) (r := fullB) (Mk := Finset.univ) (Finset.subset_univ _)) $$ HA; iintro HA
  rw [hP, rdY, wrB]
  iapply Hk
  isplitl [HX]; · iexact HX
  iexact HA

theorem wp_slotO {α : Type} {Q : α → sProp 𝕄} {kk : PUnit → Prog (TpuEff nD τ sig (Elt F) Λ₀ .tc) α}
    (h) (P : Vec F S8x8x2048 .f32 → Vec F S1x8x8x2048 .f32)
    (hP : ∀ v, P v = shapeCast S1x8x8x2048 v shapeCasts_S8x8x2048_S1x8x8x2048)
    {h1 : xM.view.LoadsAt fullA.toLoadRect} {h2 : oM.view.LoadsAt (rectO 0 h).toLoadRect}
    {h4 : (oM.access (rectO 0 h)).Stores Finset.univ}
    {h5 : (Finset.univ : Finset (rectO 0 h).shape.Idx) = Finset.univ ∨ ∀ a, (rectO 0 h).stride a = 1} :
    iprop(ptM c xM (o c) ∗ (∃ X, oPt c 0 X))
      ⊢ iprop(((ptM c xM (o c) ∗ oPt c 0 (OB o c))
            -∗ wp frame (wpE (defs₀ (F := F)) 𝒱₀ (c : Thread nD τ) none) Set.univ (kk ⟨⟩) Q)
          -∗ wp frame (wpE (defs₀ (F := F)) 𝒱₀ (c : Thread nD τ) none) Set.univ
            (.op (.load xM fullA.toLoadRect h1) fun v => .op (.load oM (rectO 0 h).toLoadRect h2) fun _ =>
              .op (.store oM (rectO 0 h) (P v) Finset.univ h4 h5) kk) Q) := by
  unfold oPt
  iintro ⟨HX, ⟨%X, HA⟩⟩ Hk
  iapply (wp_load 𝒱₀ (c : Thread nD τ) none Set.univ (m := xM) (Finset.subset_univ _)) $$ HX; iintro HX
  iapply (wp_load 𝒱₀ (c : Thread nD τ) none Set.univ (m := oM) (loadO_sub 0 h)) $$ HA; iintro HA
  iapply (wp_store 𝒱₀ (c : Thread nD τ) none Set.univ (m := oM) (r := rectO 0 h) (Mk := Finset.univ) (storeO_sub 0 h)) $$ HA; iintro HA
  rw [rdX]
  iapply Hk
  isplitl [HX]; · iexact HX
  rw [pointsTo_congr (storeO o c h X _ (hP (o c)))]
  exact .rfl
theorem wp_slotL {α : Type} {Q : α → sProp 𝕄} {kk : PUnit → Prog (TpuEff nD τ sig (Elt F) Λ₀ .tc) α}
    (h) (P : Vec F S8x16x8 .f32 → Vec F S1x8x16x8 .f32)
    (hP : ∀ v, P v = shapeCast S1x8x16x8 v shapeCasts_S8x16x8_S1x8x16x8)
    {h1 : yM.view.LoadsAt fullB.toLoadRect} {h2 : lM.view.LoadsAt (rectL 0 h).toLoadRect}
    {h4 : (lM.access (rectL 0 h)).Stores Finset.univ}
    {h5 : (Finset.univ : Finset (rectL 0 h).shape.Idx) = Finset.univ ∨ ∀ a, (rectL 0 h).stride a = 1} :
    iprop(ptM c yM (l c) ∗ (∃ X, lPt c 0 X))
      ⊢ iprop(((ptM c yM (l c) ∗ lPt c 0 (LB l c))
            -∗ wp frame (wpE (defs₀ (F := F)) 𝒱₀ (c : Thread nD τ) none) Set.univ (kk ⟨⟩) Q)
          -∗ wp frame (wpE (defs₀ (F := F)) 𝒱₀ (c : Thread nD τ) none) Set.univ
            (.op (.load yM fullB.toLoadRect h1) fun v => .op (.load lM (rectL 0 h).toLoadRect h2) fun _ =>
              .op (.store lM (rectL 0 h) (P v) Finset.univ h4 h5) kk) Q) := by
  unfold lPt
  iintro ⟨HX, ⟨%X, HA⟩⟩ Hk
  iapply (wp_load 𝒱₀ (c : Thread nD τ) none Set.univ (m := yM) (Finset.subset_univ _)) $$ HX; iintro HX
  iapply (wp_load 𝒱₀ (c : Thread nD τ) none Set.univ (m := lM) (loadL_sub 0 h)) $$ HA; iintro HA
  iapply (wp_store 𝒱₀ (c : Thread nD τ) none Set.univ (m := lM) (r := rectL 0 h) (Mk := Finset.univ) (storeL_sub 0 h)) $$ HA; iintro HA
  rw [rdY]
  iapply Hk
  isplitl [HX]; · iexact HX
  rw [pointsTo_congr (storeL l c h X _ (hP (l c)))]
  exact .rfl

/-- One head divided. -/
theorem wp_div {α : Type} {Q : α → sProp 𝕄} {kk : PUnit → Prog (TpuEff nD τ sig (Elt F) Λ₀ .tc) α}
    (m off : ℕ) (hoff : off = 128 * m) (h) (h') (P : Vec F S8x8x128 .f32 → Vec F S8x1x8 .f32 → Vec F S8x8x128 .f32)
    (hP : ∀ v w, P v w = k1_pay12 v w) (A : Vec F S8x8x2048 .f32) (B : Vec F S8x16x8 .f32)
    {h1 : aM.view.LoadsAt (rectC off h).toLoadRect} {h2 : bM.view.LoadsAt (rectR m h').toLoadRect}
    {h3 : aM.view.LoadsAt (rectC off h).toLoadRect} {h4 : (aM.access (rectC off h)).Stores Finset.univ}
    {h5 : (Finset.univ : Finset (rectC off h).shape.Idx) = Finset.univ ∨ ∀ a, (rectC off h).stride a = 1} :
    iprop(ptM c aM (mix m A B) ∗ ptM c bM B)
      ⊢ iprop(((ptM c aM (mix (m + 1) A B) ∗ ptM c bM B)
            -∗ wp frame (wpE (defs₀ (F := F)) 𝒱₀ (c : Thread nD τ) none) Set.univ (kk ⟨⟩) Q)
          -∗ wp frame (wpE (defs₀ (F := F)) 𝒱₀ (c : Thread nD τ) none) Set.univ
            (.op (.load aM (rectC off h).toLoadRect h1) fun v => .op (.load bM (rectR m h').toLoadRect h2) fun w =>
              .op (.load aM (rectC off h).toLoadRect h3) fun _ => .op (.store aM (rectC off h) (P v w) Finset.univ h4 h5) kk) Q) := by
  have key : (aM.access (rectC off h)).write (Elt F) (mix m A B)
      (P (aM.view.readAt (Elt F) (rectC off h).toLoadRect (mix m A B)) (bM.view.readAt (Elt F) (rectR m h').toLoadRect B)) Finset.univ
      = mix (m + 1) A B := by
    rw [hP, pay_apply]
    exact mix_step m off hoff h h' A B
  iintro ⟨HA, HB⟩ Hk
  iapply (wp_load 𝒱₀ (c : Thread nD τ) none Set.univ (m := aM) (Finset.subset_univ _)) $$ HA; iintro HA
  iapply (wp_load 𝒱₀ (c : Thread nD τ) none Set.univ (m := bM) (Finset.subset_univ _)) $$ HB; iintro HB
  iapply (wp_load 𝒱₀ (c : Thread nD τ) none Set.univ (m := aM) (Finset.subset_univ _)) $$ HA; iintro HA
  iapply (wp_store 𝒱₀ (c : Thread nD τ) none Set.univ (m := aM) (r := rectC off h) (Mk := Finset.univ) (Finset.subset_univ _)) $$ HA; iintro HA
  rw [key]
  iapply Hk
  isplitl [HA]; · iexact HA
  iexact HB

end Acc

end Cert.Ring

end
-- ==== Proof.Hop.lean ====
/-
  One hop of the ring: the copies of slot `k` to the right neighbour, the waits for them and for the left neighbour's, and the
  accumulation of what arrived.
-/
module

public import proofs.«01_k».proof.Proof.Steps

@[expose] public section

set_option maxRecDepth 16384

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (o : Dev nD → Vec F S8x8x2048 .f32) (l : Dev nD → Vec F S8x16x8 .f32) (K : GSem nD τ sig → ℕ) (c : Dev nD)

theorem bigSep_at (Φ : Fin 12 → sProp 𝕄) (j : Fin 12) : bigSep Finset.univ Φ ⊢ Φ j := by
  refine (Entails.of_eq (BI.bigSep_erase (Finset.mem_univ j))).trans ?_
  show iprop(Φ j ∗ bigSep (Finset.univ.erase j) Φ) ⊢ Φ j
  iintro ⟨H, -⟩; iexact H

theorem inv_own (j : Fin 12) : (invs o l K c : sProp 𝕄) ⊢ cellInv ER (ringRd o l) (K (cell c j)) (cell c j) := by
  unfold invs
  iintro ⟨-, -, -, H, -⟩
  iapply (bigSep_at (fun j : Fin 12 => cellInv ER (ringRd o l) (K (cell c j)) (cell c j)) j); iexact H
theorem inv_nxt (j : Fin 12) : (invs o l K c : sProp 𝕄) ⊢ cellInv ER (ringRd o l) (K (cell (nxt c) j)) (cell (nxt c) j) := by
  unfold invs
  iintro ⟨-, -, -, -, H⟩
  iapply (bigSep_at (fun j : Fin 12 => cellInv ER (ringRd o l) (K (cell (nxt c) j)) (cell (nxt c) j)) j); iexact H

theorem above_mono {b b' : ℕ} {T : CellTallies nD τ sig Unit} (h : Above b T) (hb : b' ≤ b) : Above b' T :=
  fun g u hg => ⟨(h g u hg).1, lt_of_le_of_lt hb (h g u hg).2⟩

/-- What the hop takes: the slot to send and the one to fill, the duties to pay, the positions at its four cells. -/
def hopPre (k k' : ℕ) (sO rO sL rL : Fin 12) (O : CellTallies nD τ sig Unit) (X : Vec F S8x8x2048 .f32) (Y : Vec F S8x16x8 .f32) : sProp 𝕄 :=
  iprop((oPt c k (OB o c) ∗ lPt c k (LB l c)) ∗ ((∃ f, oPt (nxt c) k' f) ∗ (∃ f, lPt (nxt c) k' f)) ∗ due c O
    ∗ (dutyTok ER (cell c sO) 0 false ∗ dutyTok ER (cell (nxt c) rO) 0 false ∗ dutyTok ER (cell c sL) 0 false ∗ dutyTok ER (cell (nxt c) rL) 0 false)
    ∗ (reached ER (cell c sO) 0 ∗ reached ER (cell (nxt c) rO) 0 ∗ reached ER (cell c sL) 0 ∗ reached ER (cell (nxt c) rL) 0)
    ∗ (cred (tallyAt (cell c rO) () No) ∗ cred (tallyAt (cell c rL) () Nl))
    ∗ (atPos ER (cell c sO) 0 ∅ 0 ∗ atPos ER (cell c rO) 0 ∅ 0 ∗ atPos ER (cell c sL) 0 ∅ 0 ∗ atPos ER (cell c rL) 0 ∅ 0)
    ∗ ptM c aM X ∗ ptM c bM Y)

/-- What it leaves: both slots, the four counters at zero, the accumulators with the arrived part added. -/
def hopPost (k k' : ℕ) (sO rO sL rL : Fin 12) (T : CellTallies nD τ sig Unit) (X : Vec F S8x8x2048 .f32) (Y : Vec F S8x16x8 .f32) : sProp 𝕄 :=
  iprop((oPt c k (OB o c) ∗ lPt c k (LB l c)) ∗ (oPt c k' (OB o c) ∗ lPt c k' (LB l c)) ∗ due c T
    ∗ (semVal (cell c sO) 0 ∗ semVal (cell c rO) 0 ∗ semVal (cell c sL) 0 ∗ semVal (cell c rL) 0)
    ∗ ptM c aM (addf X (o (prv^[k'] c))) ∗ ptM c bM (addf Y (l (prv^[k'] c))))

theorem wp_hop (k k' : ℕ) (sO rO sL rL : Fin 12) (hk : k < 3) (hk' : k' = k + 1) (hsO : sO.val = k) (hrO : rO.val = 3 + k)
    (hsL : sL.val = 6 + k) (hrL : rL.val = 9 + k)
    (n₁ n₂ : Dev nD) (hn₁ : n₁ = nxt c) (hn₂ : n₂ = nxt c) (dsO drO dsL drL : DmaSem sig)
    (hdsO : dsO = dsem sO) (hdrO : drO = dsem rO) (hdsL : dsL = dsem sL) (hdrL : drL = dsem rL)
    (O O' T : CellTallies nD τ sig Unit) (hO : O = O' + tallyAt (cell (nxt c) rO) () No) (hO' : O' = T + tallyAt (cell (nxt c) rL) () Nl)
    (hT : Above (2 + k) T)
    (P₁ : Vec F S8x8x2048 .f32 → Vec F S1x8x8x2048 .f32 → Vec F S8x8x2048 .f32)
    (hP₁ : ∀ v w, P₁ v w = addf v (shapeCast S8x8x2048 w shapeCasts_S1x8x8x2048_S8x8x2048))
    (P₂ : Vec F S8x16x8 .f32 → Vec F S1x8x16x8 .f32 → Vec F S8x16x8 .f32)
    (hP₂ : ∀ v w, P₂ v w = addf v (shapeCast S8x16x8 w shapeCasts_S1x8x16x8_S8x16x8))
    (X : Vec F S8x8x2048 .f32) (Y : Vec F S8x16x8 .f32) {i i' j j'}
    {hsc₁ : (slotO k' i' : Memref sig (Dev.tc n₁ : Thread nD τ).2.kind .vmem S8x8x2048 .f32).view.ref.isScScratch = false}
    {hsrc₁ : (slotO k i).view.WordExact} {hdst₁ : (slotO k' i').view.WordExact}
    {hsem₁ : DmaTarget.Typed .vmem (.dma drO)
      (.remote (Dev.tc n₁ : Thread nD τ) (slotO k' i' : Memref sig .tc .vmem S8x8x2048 .f32) (.dma dsO) hsc₁)}
    {hsc₂ : (slotL k' j' : Memref sig (Dev.tc n₂ : Thread nD τ).2.kind .vmem S8x16x8 .f32).view.ref.isScScratch = false}
    {hsrc₂ : (slotL k j).view.WordExact} {hdst₂ : (slotL k' j').view.WordExact}
    {hsem₂ : DmaTarget.Typed .vmem (.dma drL)
      (.remote (Dev.tc n₂ : Thread nD τ) (slotL k' j' : Memref sig .tc .vmem S8x16x8 .f32) (.dma dsL) hsc₂)}
    {w₁ : (slotO k' i').view.WordExact} {w₂ : (slotO k i).view.WordExact} {w₃ : (slotO k i).view.WordExact} {w₄ : (slotO k' i').view.WordExact}
    {w₅ : (slotL k' j').view.WordExact} {w₆ : (slotL k j).view.WordExact} {w₇ : (slotL k j).view.WordExact} {w₈ : (slotL k' j').view.WordExact}
    {h1 : aM.view.LoadsAt fullA.toLoadRect} {h2 : oM.view.LoadsAt (rectO k' i').toLoadRect} {h3 : aM.view.LoadsAt fullA.toLoadRect}
    {h4 : (aM.access fullA).Stores Finset.univ} {h5 : (Finset.univ : Finset fullA.shape.Idx) = Finset.univ ∨ ∀ a, fullA.stride a = 1}
    {g1 : bM.view.LoadsAt fullB.toLoadRect} {g2 : lM.view.LoadsAt (rectL k' j').toLoadRect} {g3 : bM.view.LoadsAt fullB.toLoadRect}
    {g4 : (bM.access fullB).Stores Finset.univ} {g5 : (Finset.univ : Finset fullB.shape.Idx) = Finset.univ ∨ ∀ a, fullB.stride a = 1}
    {α : Type} {Q : α → sProp 𝕄} {kk : PUnit → Prog (TpuEff nD τ sig (Elt F) Λ₀ .tc) α} :
    iprop(invs o l K c ∗ levAts L lv ∗ hopPre o l c k k' sO rO sL rL O X Y)
      ⊢ iprop((hopPost o l c k k' sO rO sL rL T X Y
            -∗ wp frame (wpE (defs₀ (F := F)) 𝒱₀ (c : Thread nD τ) none) Set.univ (kk ⟨⟩) Q)
          -∗ wp frame (wpE (defs₀ (F := F)) 𝒱₀ (c : Thread nD τ) none) Set.univ
            (.op (.enqueueDma (slotO k i) (.remote (Dev.tc n₁ : Thread nD τ) (slotO k' i') (.dma dsO) hsc₁) (.dma drO) hsrc₁ hdst₁ hsem₁) fun _ =>
            .op (.enqueueDma (slotL k j) (.remote (Dev.tc n₂ : Thread nD τ) (slotL k' j') (.dma dsL) hsc₂) (.dma drL) hsrc₂ hdst₂ hsem₂) fun _ =>
            .op (.waitDma2 dsO (slotO k' i') (slotO k i) w₁ w₂) fun _ => .op (.waitDma2 drO (slotO k i) (slotO k' i') w₃ w₄) fun _ =>
            .op (.waitDma2 dsL (slotL k' j') (slotL k j) w₅ w₆) fun _ => .op (.waitDma2 drL (slotL k j) (slotL k' j') w₇ w₈) fun _ =>
            .op (.load aM fullA.toLoadRect h1) fun v => .op (.load oM (rectO k' i').toLoadRect h2) fun w =>
            .op (.load aM fullA.toLoadRect h3) fun _ => .op (.store aM fullA (P₁ v w) Finset.univ h4 h5) fun _ =>
            .op (.load bM fullB.toLoadRect g1) fun v => .op (.load lM (rectL k' j').toLoadRect g2) fun w =>
            .op (.load bM fullB.toLoadRect g3) fun _ => .op (.store bM fullB (P₂ v w) Finset.univ g4 g5) kk) Q) := by
  have l₁ : k < 12 := by omega
  have l₂ : 3 + k < 12 := by omega
  have l₃ : 6 + k < 12 := by omega
  have l₄ : 9 + k < 12 := by omega
  obtain rfl : sO = ⟨k, l₁⟩ := Fin.ext hsO
  obtain rfl : rO = ⟨3 + k, l₂⟩ := Fin.ext hrO
  obtain rfl : sL = ⟨6 + k, l₃⟩ := Fin.ext hsL
  obtain rfl : rL = ⟨9 + k, l₄⟩ := Fin.ext hrL
  have a₁ : amt ⟨k, l₁⟩ = No := if_pos (by show k < 6; omega)
  have a₂ : amt ⟨3 + k, l₂⟩ = No := if_pos (by show 3 + k < 6; omega)
  have a₃ : amt ⟨6 + k, l₃⟩ = Nl := if_neg (by show ¬ 6 + k < 6; omega)
  have a₄ : amt ⟨9 + k, l₄⟩ = Nl := if_neg (by show ¬ 9 + k < 6; omega)
  have v₁ : lvs (osem1 ⟨k, l₁⟩) ≤ 2 + k := by unfold lvs; simp only; split_ifs <;> omega
  have v₂ : lvs (osem1 ⟨3 + k, l₂⟩) ≤ 2 + k := by unfold lvs; simp only; split_ifs <;> omega
  have v₃ : lvs (osem1 ⟨6 + k, l₃⟩) ≤ 2 + k := by unfold lvs; simp only; split_ifs <;> omega
  have v₄ : lvs (osem1 ⟨9 + k, l₄⟩) ≤ 2 + k := by unfold lvs; simp only; split_ifs <;> omega
  have x₁ : (xferPay o l c (13 + k) : sProp 𝕄) = oPt c k (OB o c) := by
    unfold xferPay; rw [if_pos (by omega), show 13 + k - 13 = k by omega]
  have x₂ : (xferPay o l c (13 + (3 + k)) : sProp 𝕄) = oPt c k' (OB o c) := by
    unfold xferPay; rw [if_neg (by omega), if_pos (by omega), show 13 + (3 + k) - 15 = k' by omega]
  have x₃ : (xferPay o l c (13 + (6 + k)) : sProp 𝕄) = lPt c k (LB l c) := by
    unfold xferPay; rw [if_neg (by omega), if_neg (by omega), if_pos (by omega), show 13 + (6 + k) - 19 = k by omega]
  have x₄ : (xferPay o l c (13 + (9 + k)) : sProp 𝕄) = lPt c k' (LB l c) := by
    unfold xferPay; rw [if_neg (by omega), if_neg (by omega), if_neg (by omega), show 13 + (9 + k) - 21 = k' by omega]
  unfold hopPre hopPost
  iintro ⟨#Hi, #Hl, ⟨So, Sl⟩, ⟨Do, Dl⟩, Ho, ⟨T1, T2, T3, T4⟩, ⟨#R1, #R2, #R3, #R4⟩, ⟨Co, Cl⟩, ⟨A1, A2, A3, A4⟩, HA, HB⟩ Hk
  iapply (wp_sendO o l K c n₁ hn₁ k k' hk hk' O' O dsO drO hdsO hdrO hO) $$ [So Do Ho T1 T2]
  · isplitr; · iapply (inv_own o l K c ⟨k, l₁⟩); iexact Hi
    isplitr; · iapply (inv_nxt o l K c ⟨3 + k, l₂⟩); iexact Hi
    isplitl [So]; · iexact So
    isplitl [Do]; · iexact Do
    isplitl [Ho]; · iexact Ho
    isplitl [T1]; · iexact T1
    isplitr; · iexact R1
    isplitl [T2]; · iexact T2
    iexact R2
  iintro ⟨C1, Ho⟩
  iapply (wp_sendL o l K c n₂ hn₂ k k' hk hk' T O' dsL drL hdsL hdrL hO') $$ [Sl Dl Ho T3 T4]
  · isplitr; · iapply (inv_own o l K c ⟨6 + k, l₃⟩); iexact Hi
    isplitr; · iapply (inv_nxt o l K c ⟨9 + k, l₄⟩); iexact Hi
    isplitl [Sl]; · iexact Sl
    isplitl [Dl]; · iexact Dl
    isplitl [Ho]; · iexact Ho
    isplitl [T3]; · iexact T3
    isplitr; · iexact R3
    isplitl [T4]; · iexact T4
    iexact R4
  iintro ⟨C3, Ho⟩
  iapply (wp_waitX o l K c ⟨k, l₁⟩ dsO hdsO T (above_mono hT v₁) (src := slotO k' i') (dst := slotO k i) a₁.symm (hsrc := w₁) (hdst := w₂)) $$ [C1 Ho A1]
  · isplitr; · iapply (inv_own o l K c ⟨k, l₁⟩); iexact Hi
    isplitl [C1]; · rw [a₁]; iexact C1
    isplitl [Ho]; · iexact Ho
    isplitr; · iexact Hl
    iexact A1
  iintro ⟨Ho, Z1, So⟩
  ihave So := (Entails.of_eq x₁) $$ So
  iapply (wp_waitX o l K c ⟨3 + k, l₂⟩ drO hdrO T (above_mono hT v₂) (src := slotO k i) (dst := slotO k' i') a₂.symm (hsrc := w₃) (hdst := w₄)) $$ [Co Ho A2]
  · isplitr; · iapply (inv_own o l K c ⟨3 + k, l₂⟩); iexact Hi
    isplitl [Co]; · rw [a₂]; iexact Co
    isplitl [Ho]; · iexact Ho
    isplitr; · iexact Hl
    iexact A2
  iintro ⟨Ho, Z2, So'⟩
  ihave So' := (Entails.of_eq x₂) $$ So'
  iapply (wp_waitX o l K c ⟨6 + k, l₃⟩ dsL hdsL T (above_mono hT v₃) (src := slotL k' j') (dst := slotL k j) a₃.symm (hsrc := w₅) (hdst := w₆)) $$ [C3 Ho A3]
  · isplitr; · iapply (inv_own o l K c ⟨6 + k, l₃⟩); iexact Hi
    isplitl [C3]; · rw [a₃]; iexact C3
    isplitl [Ho]; · iexact Ho
    isplitr; · iexact Hl
    iexact A3
  iintro ⟨Ho, Z3, Sl⟩
  ihave Sl := (Entails.of_eq x₃) $$ Sl
  iapply (wp_waitX o l K c ⟨9 + k, l₄⟩ drL hdrL T (above_mono hT v₄) (src := slotL k j) (dst := slotL k' j') a₄.symm (hsrc := w₇) (hdst := w₈)) $$ [Cl Ho A4]
  · isplitr; · iapply (inv_own o l K c ⟨9 + k, l₄⟩); iexact Hi
    isplitl [Cl]; · rw [a₄]; iexact Cl
    isplitl [Ho]; · iexact Ho
    isplitr; · iexact Hl
    iexact A4
  iintro ⟨Ho, Z4, Sl'⟩
  ihave Sl' := (Entails.of_eq x₄) $$ Sl'
  iapply (wp_accO o c k' i' P₁ hP₁ X) $$ [HA So']
  · isplitl [HA]; · iexact HA
    iexact So'
  iintro ⟨HA, So'⟩
  iapply (wp_accL l c k' j' P₂ hP₂ Y) $$ [HB Sl']
  · isplitl [HB]; · iexact HB
    iexact Sl'
  iintro ⟨HB, Sl'⟩
  iapply Hk
  isplitl [So Sl]; · isplitl [So]; · iexact So
                     iexact Sl
  isplitl [So' Sl']; · isplitl [So']; · iexact So'
                       iexact Sl'
  isplitl [Ho]; · iexact Ho
  isplitl [Z1 Z2 Z3 Z4]
  · isplitl [Z1]; · iexact Z1
    isplitl [Z2]; · iexact Z2
    isplitl [Z3]; · iexact Z3
    iexact Z4
  isplitl [HA]; · iexact HA
  iexact HB

end Cert.Ring

end
-- ==== Proof.Reduce.lean ====
/-
  The reducing kernel's run on one device: the barrier, the own partial results in place, three hops, the divisions.
-/
module

public import proofs.«01_k».proof.Proof.Hop

@[expose] public section

set_option maxRecDepth 16384

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (o : Dev nD → Vec F S8x8x2048 .f32) (l : Dev nD → Vec F S8x16x8 .f32) (K : GSem nD τ sig → ℕ) (c : Dev nD)

/-- The ring's sums, in the order in which device `c` adds. -/
def sumO : Vec F S8x8x2048 .f32 := addf (addf (addf (o c) (o (prv^[1] c))) (o (prv^[2] c))) (o (prv^[3] c))
def sumL : Vec F S8x16x8 .f32 := addf (addf (addf (l c) (l (prv^[1] c))) (l (prv^[2] c))) (l (prv^[3] c))

/-! ## What the stores write -/

theorem pay1_eq (v : Vec F S8x8x2048 .f32) : k1_pay1 v = v := by unfold k1_pay1; simp only [shapeCast_self]
theorem pay2_eq (v : Vec F S8x16x8 .f32) : k1_pay2 v = v := by unfold k1_pay2; simp only [shapeCast_self]
theorem pay3_eq (v : Vec F S8x8x2048 .f32) : k1_pay3 v = shapeCast S1x8x8x2048 v shapeCasts_S8x8x2048_S1x8x8x2048 := by
  unfold k1_pay3; simp only [shapeCast_self]
theorem pay5_eq (v : Vec F S8x16x8 .f32) : k1_pay5 (k1_pay4 v) = shapeCast S1x8x16x8 v shapeCasts_S8x16x8_S1x8x16x8 := by
  unfold k1_pay5 k1_pay4; simp only [shapeCast_self]
theorem pay6_eq (v : Vec F S8x8x2048 .f32) (w : Vec F S1x8x8x2048 .f32) :
    k1_pay6 v w = addf v (shapeCast S8x8x2048 w shapeCasts_S1x8x8x2048_S8x8x2048) := by unfold k1_pay6; simp only [shapeCast_self]
theorem pay7_eq (v : Vec F S8x16x8 .f32) (w : Vec F S1x8x16x8 .f32) :
    k1_pay7 v w = addf v (shapeCast S8x16x8 w shapeCasts_S1x8x16x8_S8x16x8) := by unfold k1_pay7; simp only [shapeCast_self]

theorem twelve (Φ : Fin 12 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11) := by
  rw [bigSep_univ_eq_bigSepL [0, 1, 2, 3, 4, 5, 6, 7, 8, 9, 10, 11] (by decide) (by decide)]; rfl

/-- The four slots of a buffer. -/
def slotsAny : sProp 𝕄 := iprop(((∃ f, oPt c 0 f) ∗ (∃ f, oPt c 1 f) ∗ (∃ f, oPt c 2 f) ∗ (∃ f, oPt c 3 f))
  ∗ (∃ f, lPt c 0 f) ∗ (∃ f, lPt c 1 f) ∗ (∃ f, lPt c 2 f) ∗ (∃ f, lPt c 3 f))

def redPre : sProp 𝕄 :=
  iprop(opened o l K c ∗ creds c ∗ levAts L lv ∗ slotsAny c
    ∗ ptM c xM (o c) ∗ ptM c yM (l c) ∗ (∃ X, ptM c aM X) ∗ (∃ X, ptM c bM X) ∗ due c (O₀ c))

def redPost : sProp 𝕄 :=
  iprop(semVal (barCell c) 0 ∗ (bigSep Finset.univ fun j : Fin 12 => semVal (cell c j) 0)
    ∗ ((oPt c 0 (OB o c) ∗ oPt c 1 (OB o c) ∗ oPt c 2 (OB o c) ∗ oPt c 3 (OB o c))
      ∗ lPt c 0 (LB l c) ∗ lPt c 1 (LB l c) ∗ lPt c 2 (LB l c) ∗ lPt c 3 (LB l c))
    ∗ ptM c xM (o c) ∗ ptM c yM (l c) ∗ ptM c aM (divO (sumO o c) (sumL l c)) ∗ (∃ X, ptM c bM X) ∗ due c 0)

theorem redRun (Q : PUnit → sProp 𝕄) {h0 h1 h2 h3 h4 h5} :
    iprop(redPre o l K c ∗ (redPost o l c -∗ Q ⟨⟩))
      ⊢ wp frame (wpE (defs₀ (F := F)) 𝒱₀ (c : Thread nD τ) none) Set.univ
        (cc1__allreduce_body xM h0 yM h1 aM h2 bM h3 oM h4 lM h5 cc1_scratch3 cc1_scratch4 cc1_scratch5 cc1_scratch6) Q := by
  rw [cc1__allreduce_body_eq_skeleton]
  unfold cc1__allreduce_body_skel
  simp only [k1_part1_eq_skeleton, k1_part1_skel, k1_part2_eq_skeleton, k1_part2_skel, k1_part3_eq_skeleton, k1_part3_skel,
    k1_part4_eq_skeleton, k1_part4_skel, k1_part5_eq_skeleton, k1_part5_skel, k1_part6_eq_skeleton, k1_part6_skel,
    k1_part7_eq_skeleton, k1_part7_skel, k1_part8_eq_skeleton, k1_part8_skel, k1_part9_eq_skeleton, k1_part9_skel,
    k1_part10_eq_skeleton, k1_part10_skel, k1_part11_eq_skeleton, k1_part11_skel, k1_part12_eq_skeleton, k1_part12_skel,
    k1_part13_eq_skeleton, k1_part13_skel, k1_part14_eq_skeleton, k1_part14_skel, k1_part15_eq_skeleton, k1_part15_skel,
    k1_part16_eq_skeleton, k1_part16_skel, semSignalWord, semWaitWord, Prog.lift, Prog.bind_op, Prog.bind_ret, Prog.pure_eq_ret,
    wp_deviceId]
  unfold redPre opened toks creds slotsAny
  rw [twelve]
  iintro ⟨⟨⟨#Hi, AB, ⟨⟨A0, #R0⟩, ⟨A1, #R1⟩, ⟨A2, #R2⟩, ⟨A3, #R3⟩, ⟨A4, #R4⟩, ⟨A5, #R5⟩, ⟨A6, #R6⟩, ⟨A7, #R7⟩, ⟨A8, #R8⟩, ⟨A9, #R9⟩, ⟨A10, #R10⟩,
      ⟨A11, #R11⟩⟩, #RP, #RN, ⟨TL, TR, ⟨N3, N4, N5, N9, N10, N11⟩, K0, K1, K2, K6, K7, K8⟩⟩, ⟨CB, C3, C4, C5, C9, C10, C11⟩, #Hl,
      ⟨⟨SO0, SO1, SO2, SO3⟩, SL0, SL1, SL2, SL3⟩, HX, HY, HA, HB, Ho⟩, Hk⟩
  -- the barrier: the own landing slots go left, the right neighbour's come
  iapply (wp_sigL o l K c _ (dev1_eq c) rfl) $$ [Ho TL SO1 SO2 SO3 SL1 SL2 SL3]
  · isplitr; · unfold invs; icases Hi with ⟨-, H, -⟩; iexact H
    isplitl [Ho]; · iexact Ho
    isplitl [TL]; · iexact TL
    isplitl [SO1 SO2 SO3 SL1 SL2 SL3]
    · unfold barPay; rw [nxt_prv]
      isplitl [SO1 SO2 SO3 SL1 SL2 SL3]
      · isplitl [SO1]; · iexact SO1
        isplitl [SO2]; · iexact SO2
        isplitl [SO3]; · iexact SO3
        isplitl [SL1]; · iexact SL1
        isplitl [SL2]; · iexact SL2
        iexact SL3
      isplitr; · iexact R3
      isplitr; · iexact R4
      isplitr; · iexact R5
      isplitr; · iexact R9
      isplitr; · iexact R10
      iexact R11
    iexact RP
  iintro Ho
  iapply (wp_sigR o l K c _ (dev2_eq c) rfl) $$ [Ho TR]
  · isplitr; · unfold invs; icases Hi with ⟨-, -, H, -⟩; iexact H
    isplitl [Ho]; · iexact Ho
    isplitl [TR]; · iexact TR
    iexact RN
  iintro Ho
  iapply (wp_waitB o l K c rfl) $$ [CB Ho AB]
  · isplitr; · unfold invs; icases Hi with ⟨H, -⟩; iexact H
    isplitl [CB]; · iexact CB
    isplitl [Ho]; · iexact Ho
    isplitr; · iexact Hl
    iexact AB
  iintro ⟨Ho, ZB, Hp⟩
  unfold barPay
  icases Hp with ⟨⟨DO1, DO2, DO3, DL1, DL2, DL3⟩, #Q3, #Q4, #Q5, #Q9, #Q10, #Q11⟩
  -- the own partial results in place
  iapply (wp_setO o c k1_pay1 pay1_eq) $$ [HX HA]
  · isplitl [HX]; · iexact HX
    iexact HA
  iintro ⟨HX, HA⟩
  iapply (wp_setL l c k1_pay2 pay2_eq) $$ [HY HB]
  · isplitl [HY]; · iexact HY
    iexact HB
  iintro ⟨HY, HB⟩
  iapply (wp_slotO o c _ k1_pay3 pay3_eq) $$ [HX SO0]
  · isplitl [HX]; · iexact HX
    iexact SO0
  iintro ⟨HX, SO0⟩
  iapply (wp_slotL l c _ (fun v => k1_pay5 (k1_pay4 v)) pay5_eq) $$ [HY SL0]
  · isplitl [HY]; · iexact HY
    iexact SL0
  iintro ⟨HY, SL0⟩
  -- hop 0
  iapply (wp_hop o l K c 0 1 0 3 6 9 (by decide) rfl rfl rfl rfl rfl _ _ (dev3_eq c) (dev4_eq c) _ _ _ _ rfl rfl rfl rfl
      (T6 c) (T5 c) (T4 c) rfl rfl (above4 2 (by decide) c) k1_pay6 pay6_eq k1_pay7 pay7_eq (o c) (l c))
    $$ [SO0 SL0 DO1 DL1 Ho K0 N3 K6 N9 C3 C9 A0 A3 A6 A9 HA HB]
  · isplitr; · iexact Hi
    isplitr; · iexact Hl
    unfold hopPre
    isplitl [SO0 SL0]
    · isplitl [SO0]; · iexact SO0
      iexact SL0
    isplitl [DO1 DL1]
    · isplitl [DO1]; · iexact DO1
      iexact DL1
    isplitl [Ho]; · iexact Ho
    isplitl [K0 N3 K6 N9]
    · isplitl [K0]; · iexact K0
      isplitl [N3]; · iexact N3
      isplitl [K6]; · iexact K6
      iexact N9
    isplitr
    · isplitr; · iexact R0
      isplitr; · iexact Q3
      isplitr; · iexact R6
      iexact Q9
    isplitl [C3 C9]
    · isplitl [C3]; · iexact C3
      iexact C9
    isplitl [A0 A3 A6 A9]
    · isplitl [A0]; · iexact A0
      isplitl [A3]; · iexact A3
      isplitl [A6]; · iexact A6
      iexact A9
    isplitl [HA]; · iexact HA
    iexact HB
  unfold hopPost
  iintro ⟨⟨SO0, SL0⟩, ⟨SO1, SL1⟩, Ho, ⟨Z0, Z3, Z6, Z9⟩, HA, HB⟩
  -- hop 1
  iapply (wp_hop o l K c 1 2 1 4 7 10 (by decide) rfl rfl rfl rfl rfl _ _ (dev5_eq c) (dev6_eq c) _ _ _ _ rfl rfl rfl rfl
      (T4 c) (T3 c) (T2 c) rfl rfl (above2 3 (by decide) c) k1_pay8 pay6_eq k1_pay9 pay7_eq _ _)
    $$ [SO1 SL1 DO2 DL2 Ho K1 N4 K7 N10 C4 C10 A1 A4 A7 A10 HA HB]
  · isplitr; · iexact Hi
    isplitr; · iexact Hl
    unfold hopPre
    isplitl [SO1 SL1]
    · isplitl [SO1]; · iexact SO1
      iexact SL1
    isplitl [DO2 DL2]
    · isplitl [DO2]; · iexact DO2
      iexact DL2
    isplitl [Ho]; · iexact Ho
    isplitl [K1 N4 K7 N10]
    · isplitl [K1]; · iexact K1
      isplitl [N4]; · iexact N4
      isplitl [K7]; · iexact K7
      iexact N10
    isplitr
    · isplitr; · iexact R1
      isplitr; · iexact Q4
      isplitr; · iexact R7
      iexact Q10
    isplitl [C4 C10]
    · isplitl [C4]; · iexact C4
      iexact C10
    isplitl [A1 A4 A7 A10]
    · isplitl [A1]; · iexact A1
      isplitl [A4]; · iexact A4
      isplitl [A7]; · iexact A7
      iexact A10
    isplitl [HA]; · iexact HA
    iexact HB
  unfold hopPost
  iintro ⟨⟨SO1, SL1⟩, ⟨SO2, SL2⟩, Ho, ⟨Z1, Z4, Z7, Z10⟩, HA, HB⟩
  -- hop 2
  iapply (wp_hop o l K c 2 3 2 5 8 11 (by decide) rfl rfl rfl rfl rfl _ _ (dev7_eq c) (dev8_eq c) _ _ _ _ rfl rfl rfl rfl
      (T2 c) (T1 c) (T0 c) rfl rfl (above_zero 4) k1_pay10 pay6_eq k1_pay11 pay7_eq _ _)
    $$ [SO2 SL2 DO3 DL3 Ho K2 N5 K8 N11 C5 C11 A2 A5 A8 A11 HA HB]
  · isplitr; · iexact Hi
    isplitr; · iexact Hl
    unfold hopPre
    isplitl [SO2 SL2]
    · isplitl [SO2]; · iexact SO2
      iexact SL2
    isplitl [DO3 DL3]
    · isplitl [DO3]; · iexact DO3
      iexact DL3
    isplitl [Ho]; · iexact Ho
    isplitl [K2 N5 K8 N11]
    · isplitl [K2]; · iexact K2
      isplitl [N5]; · iexact N5
      isplitl [K8]; · iexact K8
      iexact N11
    isplitr
    · isplitr; · iexact R2
      isplitr; · iexact Q5
      isplitr; · iexact R8
      iexact Q11
    isplitl [C5 C11]
    · isplitl [C5]; · iexact C5
      iexact C11
    isplitl [A2 A5 A8 A11]
    · isplitl [A2]; · iexact A2
      isplitl [A5]; · iexact A5
      isplitl [A8]; · iexact A8
      iexact A11
    isplitl [HA]; · iexact HA
    iexact HB
  unfold hopPost
  iintro ⟨⟨SO2, SL2⟩, ⟨SO3, SL3⟩, Ho, ⟨Z2, Z5, Z8, Z11⟩, HA, HB⟩
  ihave HD := (Entails.of_eq (by rw [mix_zero] : iprop(ptM c aM (sumO o c) ∗ ptM c bM (sumL l c))
      = iprop(ptM c aM (mix 0 (sumO o c) (sumL l c)) ∗ ptM c bM (sumL l c)))) $$ [HA HB]
  · isplitl [HA]; · iexact HA
    iexact HB
  iapply (wp_div c 0 0 rfl _ _ _ (fun _ _ => rfl) (sumO o c) (sumL l c)) $$ HD; iintro HD
  iapply (wp_div c 1 128 rfl _ _ _ (fun _ _ => rfl) (sumO o c) (sumL l c)) $$ HD; iintro HD
  iapply (wp_div c 2 256 rfl _ _ _ (fun _ _ => rfl) (sumO o c) (sumL l c)) $$ HD; iintro HD
  iapply (wp_div c 3 384 rfl _ _ _ (fun _ _ => rfl) (sumO o c) (sumL l c)) $$ HD; iintro HD
  iapply (wp_div c 4 512 rfl _ _ _ (fun _ _ => rfl) (sumO o c) (sumL l c)) $$ HD; iintro HD
  iapply (wp_div c 5 640 rfl _ _ _ (fun _ _ => rfl) (sumO o c) (sumL l c)) $$ HD; iintro HD
  iapply (wp_div c 6 768 rfl _ _ _ (fun _ _ => rfl) (sumO o c) (sumL l c)) $$ HD; iintro HD
  iapply (wp_div c 7 896 rfl _ _ _ (fun _ _ => rfl) (sumO o c) (sumL l c)) $$ HD; iintro HD
  iapply (wp_div c 8 1024 rfl _ _ _ (fun _ _ => rfl) (sumO o c) (sumL l c)) $$ HD; iintro HD
  iapply (wp_div c 9 1152 rfl _ _ _ (fun _ _ => rfl) (sumO o c) (sumL l c)) $$ HD; iintro HD
  iapply (wp_div c 10 1280 rfl _ _ _ (fun _ _ => rfl) (sumO o c) (sumL l c)) $$ HD; iintro HD
  iapply (wp_div c 11 1408 rfl _ _ _ (fun _ _ => rfl) (sumO o c) (sumL l c)) $$ HD; iintro HD
  iapply (wp_div c 12 1536 rfl _ _ _ (fun _ _ => rfl) (sumO o c) (sumL l c)) $$ HD; iintro HD
  iapply (wp_div c 13 1664 rfl _ _ _ (fun _ _ => rfl) (sumO o c) (sumL l c)) $$ HD; iintro HD
  iapply (wp_div c 14 1792 rfl _ _ _ (fun _ _ => rfl) (sumO o c) (sumL l c)) $$ HD; iintro HD
  iapply (wp_div c 15 1920 rfl _ _ _ (fun _ _ => rfl) (sumO o c) (sumL l c)) $$ HD; iintro HD
  icases HD with ⟨HA, HB⟩
  rw [wp_ret]
  imodintro
  iapply Hk
  unfold redPost
  rw [twelve]
  isplitl [ZB]; · iexact ZB
  isplitl [Z0 Z1 Z2 Z3 Z4 Z5 Z6 Z7 Z8 Z9 Z10 Z11]
  · isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    isplitl [Z8]; · iexact Z8
    isplitl [Z9]; · iexact Z9
    isplitl [Z10]; · iexact Z10
    iexact Z11
  isplitl [SO0 SO1 SO2 SO3 SL0 SL1 SL2 SL3]
  · isplitl [SO0 SO1 SO2 SO3]
    · isplitl [SO0]; · iexact SO0
      isplitl [SO1]; · iexact SO1
      isplitl [SO2]; · iexact SO2
      iexact SO3
    isplitl [SL0]; · iexact SL0
    isplitl [SL1]; · iexact SL1
    isplitl [SL2]; · iexact SL2
    iexact SL3
  isplitl [HX]; · iexact HX
  isplitl [HY]; · iexact HY
  isplitl [HA]; · rw [← mix_last]; iexact HA
  isplitl [HB]; · iexists _; iexact HB
  iexact Ho

end Cert.Ring

end
-- ==== Proof.Body.lean ====
/-
  The reducing call's proof data: its one point runs the body over the whole arrays. Its two communication buffers, whole,
  are their four slots.
-/
module

public import proofs.«01_k».proof.Proof.Attn2
public import proofs.«01_k».proof.Proof.Reduce

@[expose] public section

set_option maxRecDepth 16384

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

/-! ## A buffer is its four slots -/

theorem four (Φ : Fin 4 → sProp 𝕄) : bigSep Finset.univ Φ = iprop(Φ 0 ∗ Φ 1 ∗ Φ 2 ∗ Φ 3) := by
  rw [bigSep_univ_eq_bigSepL [0, 1, 2, 3] (by decide) (by decide)]; rfl

theorem setO_cover : (Finset.univ : Finset (Fin 4)).biUnion (fun k => setO k.val) = Finset.univ := by
  ext i
  simp only [Finset.mem_biUnion, Finset.mem_univ, true_and, iff_true, setO, Finset.mem_filter]
  exact ⟨⟨(i 0).val, (i 0).isLt⟩, rfl⟩
theorem setL_cover : (Finset.univ : Finset (Fin 4)).biUnion (fun k => setL k.val) = Finset.univ := by
  ext i
  simp only [Finset.mem_biUnion, Finset.mem_univ, true_and, iff_true, setL, Finset.mem_filter]
  exact ⟨⟨(i 0).val, (i 0).isLt⟩, rfl⟩
theorem setO_disj (k k' : Fin 4) (h : k ≠ k') : Disjoint (setO k.val) (setO k'.val) := by
  rw [Finset.disjoint_left]; intro i h1 h2
  simp only [setO, Finset.mem_filter, Finset.mem_univ, true_and] at h1 h2
  exact h (Fin.ext (h1.symm.trans h2))
theorem setL_disj (k k' : Fin 4) (h : k ≠ k') : Disjoint (setL k.val) (setL k'.val) := by
  rw [Finset.disjoint_left]; intro i h1 h2
  simp only [setL, Finset.mem_filter, Finset.mem_univ, true_and] at h1 h2
  exact h (Fin.ext (h1.symm.trans h2))

theorem oWhole (c : Dev nD) (f : Vec F S4x8x8x2048 .f32) :
    (oM.view.loc (c : Thread nD τ) ↦{fullShare} f : sProp 𝕄) = iprop(oPt c 0 f ∗ oPt c 1 f ∗ oPt c 2 f ∗ oPt c 3 f) := by
  show (oM.view.loc (c : Thread nD τ) ↦[Finset.univ]{fullShare} f : sProp 𝕄) = _
  rw [show (Finset.univ : Finset S4x8x8x2048.Idx) = _ from setO_cover.symm]
  exact (pointsTo_biUnion (ℓ := oM.view.loc (c : Thread nD τ)) Finset.univ (fun k : Fin 4 => setO k.val) fun k _ k' _ h => setO_disj k k' h).trans (four _)
theorem lWhole (c : Dev nD) (f : Vec F S4x8x16x8 .f32) :
    (lM.view.loc (c : Thread nD τ) ↦{fullShare} f : sProp 𝕄) = iprop(lPt c 0 f ∗ lPt c 1 f ∗ lPt c 2 f ∗ lPt c 3 f) := by
  show (lM.view.loc (c : Thread nD τ) ↦[Finset.univ]{fullShare} f : sProp 𝕄) = _
  rw [show (Finset.univ : Finset S4x8x16x8.Idx) = _ from setL_cover.symm]
  exact (pointsTo_biUnion (ℓ := lM.view.loc (c : Thread nD τ)) Finset.univ (fun k : Fin 4 => setL k.val) fun k _ k' _ h => setL_disj k k' h).trans (four _)

/-- The scoped buffers that the reducing call stages nothing in: its own three, and the other call's. -/
abbrev others (c : Dev nD) : sProp 𝕄 := bigSepL [cc0_stg0_0, cc0_stg0_1, cc0_stg1_0, cc0_stg1_1, cc0_stg2_0, cc0_stg2_1, cc0_stg3_0, cc0_stg3_1, cc0_stg4_0, cc0_stg4_1]
  fun b : Ref sig .tc => iprop(∃ f : Buf (Elt F) ((c : Thread nD τ).loc b), ((c : Thread nD τ).loc b) ↦{fullShare} f)
theorem rest1 (c : Dev nD) : (Pipeline.scopedRest (Ix := Unit) (Name := ℕ) (U := UU) (Lvl := ℕ) (Val := Elt F) spec1 c : sProp 𝕄)
    = iprop((∃ X, ptM c bM X) ∗ (∃ f, (oM.view.loc (c : Thread nD τ)) ↦{fullShare} f) ∗ (∃ f, (lM.view.loc (c : Thread nD τ)) ↦{fullShare} f) ∗ others c) :=
  Pipeline.scopedRest_eq_of_list spec1 c
    [cc1_scratch0, cc1_scratch1, cc1_scratch2, cc0_stg0_0, cc0_stg0_1, cc0_stg1_0, cc0_stg1_1, cc0_stg2_0, cc0_stg2_1, cc0_stg3_0, cc0_stg3_1, cc0_stg4_0, cc0_stg4_1]
    (by decide) (by decide)

/-! ## The arrays between the calls -/

variable (m : (ℓ : Loc nD τ sig) → Buf (Elt F) ℓ)

/-- What the reducing call leaves: the ring's sums of the weighted values over those of the weights. -/
def res (c : Dev nD) : Vec F S8x8x2048 .f32 := divO (sumO (oD m) c) (sumL (lD m) c)

def outs : Outs (F := F) := fun _ r c =>
  Function.update (Function.update (Function.update (V1 m c) main_v4_0 (oD m c)) main_v4_1 (lD m c)) main_v5 (res m c) r

theorem ne01 : (Proc.devRef .tc main_v4_0 : DevRef τ sig) ≠ Proc.devRef .tc main_v4_1 := by decide
theorem ne05 : (Proc.devRef .tc main_v4_0 : DevRef τ sig) ≠ Proc.devRef .tc main_v5 := by decide
theorem ne15 : (Proc.devRef .tc main_v4_1 : DevRef τ sig) ≠ Proc.devRef .tc main_v5 := by decide

theorem outs_o (c : Dev nD) (J : ℕ) : outs m J main_v4_0 c = oD m c := by
  unfold outs; rw [Function.update_of_ne ne05, Function.update_of_ne ne01, Function.update_self]
theorem outs_l (c : Dev nD) (J : ℕ) : outs m J main_v4_1 c = lD m c := by
  unfold outs; rw [Function.update_of_ne ne15, Function.update_self]
theorem outs_r (c : Dev nD) (J : ℕ) : outs m J main_v5 c = res m c := by
  unfold outs; rw [Function.update_self]

theorem V2_o (c : Dev nD) : V2 m (outs m) c main_v4_0 = oD m c := by
  unfold V2; rw [Function.update_of_ne ne01, Function.update_self, outs_o]
theorem V2_l (c : Dev nD) : V2 m (outs m) c main_v4_1 = lD m c := by
  unfold V2; rw [Function.update_self, outs_l]
theorem V3_r (c : Dev nD) : V3 m (outs m) c main_v5 = res m c := by
  unfold V3; rw [Function.update_self, outs_r]

/-! ## The proof data -/

/-- What the first point of the reducing call takes, beside the buffers; and what its last point leaves. -/
def Xk (c : Dev nD) : sProp 𝕄 := iprop((∃ K, opened (oD m) (lD m) K c) ∗ creds c ∗ levAts L lv)
def Yk (c : Dev nD) : sProp 𝕄 := semVal (barCell c) 0

/-- The invariant and the dues, before the one point and after it. -/
def Phi1 (c : Dev nD) : ℕ → sProp 𝕄
  | 0 => iprop(Pipeline.scopedRest spec1 c ∗ (∃ r, prngReg c r) ∗ Xk m c)
  | _ + 1 => iprop(Pipeline.scopedRest spec1 c ∗ (∃ r, prngReg c r) ∗ Pipeline.ownSems0 osem1 c ∗ Yk c)
def owe1 (c : Dev nD) : ℕ → CellTallies nD τ sig Unit
  | 0 => O₀ c
  | _ + 1 => 0

def dat1 (c : Dev nD) : Dat τ (Elt F) Unit ℕ UU ℕ cfg1 c where
  A w := V2 m (outs m) c (Pipeline.arrRef spec1 w)
  after w _ := match w with
    | ⟨0, _⟩ => oD m c
    | ⟨1, _⟩ => lD m c
    | ⟨2, _⟩ => res m c
  Φ t := Phi1 m c t.val
  q _ := fullShare
  owed t := owe1 c t.val

theorem blk1_0 (t : Fin cfg1.N) (f : Vec F S8x8x2048 .f32) : ((cfg1.win 0).blk t).view.read (Elt F) f = f := by
  obtain rfl := fin_N1 t
  funext x
  show f ((win1_0.rect t1_0).emb x) = f x
  congr 1
  funext a; apply Fin.ext
  exact win1_0.rect_emb_val_of_index_zero t1_0 a (by fin_cases a <;> rfl) x
theorem blk1_1 (t : Fin cfg1.N) (f : Vec F S8x16x8 .f32) : ((cfg1.win 1).blk t).view.read (Elt F) f = f := by
  obtain rfl := fin_N1 t
  funext x
  show f ((win1_1.rect t1_0).emb x) = f x
  congr 1
  funext a; apply Fin.ext
  exact win1_1.rect_emb_val_of_index_zero t1_0 a (by fin_cases a <;> rfl) x
theorem blk1_2 (t : Fin cfg1.N) (f : Vec F S8x8x2048 .f32) : ((cfg1.win 2).blk t).view.read (Elt F) f = f := by
  obtain rfl := fin_N1 t
  funext x
  show f ((win1_2.rect t1_0).emb x) = f x
  congr 1
  funext a; apply Fin.ext
  exact win1_2.rect_emb_val_of_index_zero t1_0 a (by fin_cases a <;> rfl) x

theorem before1_0 (c : Dev nD) (t : Fin cfg1.N) (d) : (dat1 m c).before 0 t d = oD m c :=
  ((dat1 m c).before_fetched 0 t (fetch1_0 t) d).trans ((blk1_0 t _).trans (V2_o m c))
theorem before1_1 (c : Dev nD) (t : Fin cfg1.N) (d) : (dat1 m c).before 1 t d = lD m c :=
  ((dat1 m c).before_fetched 1 t (fetch1_1 t) d).trans ((blk1_1 t _).trans (V2_l m c))

theorem last1_2 (c : Dev nD) : (dat1 m c).arrAt 2 cfg1.N = res m c :=
  (dat1 m c).arrAt_eq_of_cover 2 (res m c) (fun t _ => (blk1_2 t (res m c)).symm)
    fun i => ⟨t1_0, flush1_2 _, by
      show i ∈ ((View.whole main_v5).slice (win1_2.rect t1_0)).set
      rw [View.set_slice_whole, Rect.mem_set_unit]
      have b0 : (i 0).val < 8 := (i 0).isLt
      have b1 : (i 1).val < 8 := (i 1).isLt
      have b2 : (i 2).val < 2048 := (i 2).isLt
      intro a
      fin_cases a
      · show 0 ≤ (i 0).val ∧ (i 0).val < 0 + 8; omega
      · show 0 ≤ (i 1).val ∧ (i 1).val < 0 + 8; omega
      · show 0 ≤ (i 2).val ∧ (i 2).val < 0 + 2048; omega⟩

theorem last_val : (Fin.last cfg1.N).val = 1 := N_1
theorem owed1_last (c : Dev nD) : (dat1 (F := F) m c).owed (Fin.last _) = 0 := by
  show owe1 c (Fin.last cfg1.N).val = 0
  rw [last_val]; rfl
theorem Phi1_last (c : Dev nD) : (dat1 (F := F) m c).Φ (Fin.last _)
    = iprop(Pipeline.scopedRest spec1 c ∗ (∃ r, prngReg c r) ∗ Pipeline.ownSems0 osem1 c ∗ Yk c) := by
  show Phi1 m c (Fin.last cfg1.N).val = _
  rw [last_val]; rfl

/-- A device's dues, as the pipeline's point carries them: any recorded pairs are within the bound. -/
theorem owesAt_intro {cfg : Pipeline.Cfg sig Λ₀} {c : Dev nD} (dat : Dat τ (Elt F) Unit ℕ UU ℕ cfg c) (t : Fin (cfg.N + 1))
    (O : CellTallies nD τ sig Unit) (h0 : dat.owed t = O) (hr : dat.recorded t = Set.univ) :
    due c O ⊢ (dat.owesAt () t : sProp 𝕄) := by
  unfold due Dat.owesAt Pipeline.owesWithin Dat.bound
  rw [h0, hr]
  iintro ⟨%W, HO⟩
  iexists W
  isplitr
  · ipureintro; exact fun _ _ => Or.inl trivial
  · iexact HO
theorem owesAt_elim {cfg : Pipeline.Cfg sig Λ₀} {c : Dev nD} (dat : Dat τ (Elt F) Unit ℕ UU ℕ cfg c) (t : Fin (cfg.N + 1))
    (O : CellTallies nD τ sig Unit) (h0 : dat.owed t = O) : (dat.owesAt () t : sProp 𝕄) ⊢ due c O := by
  unfold due Dat.owesAt Pipeline.owesWithin
  rw [h0]
  iintro ⟨%W, -, HO⟩
  iexists W
  iexact HO

theorem row1 (t : Fin cfg1.N) : defs₀ (F := F) .tc cfg1.body (cfg1.bodyArgs t (cfg1.slots t)) = bodyAt1 t := by
  unfold defs₀; rw [Defs.onTc_tc]

theorem stg_elim (c : Dev nD) (b : Ref sig .tc) (X : b.ty.Contents (Elt F)) :
    (owns (c : Thread nD τ) (Memref.whole b) fullShare X : sProp 𝕄) ⊢ ((c : Thread nD τ).loc b ↦{fullShare} X) := by
  rw [owns_whole_eq]
  iintro ⟨%f, %h, H⟩; subst h; iexact H
theorem stg_intro (c : Dev nD) (b : Ref sig .tc) (X : b.ty.Contents (Elt F)) :
    ((c : Thread nD τ).loc b ↦{fullShare} X : sProp 𝕄) ⊢ owns (c : Thread nD τ) (Memref.whole b) fullShare X := by
  rw [owns_whole_eq]
  iintro H; iexists X; isplitr
  · ipureintro; rfl
  · iexact H

/-- The body's obligation. -/
theorem body1 (c : Dev nD) : BodyObligation (dat1 (F := F) m c) defs₀ 𝒱₀ () Set.univ := fun t => by
  obtain rfl := fin_N1 t
  rw [bigSep_W1, bigSep_W1, row1]
  simp only [before1_0, before1_1]
  rw [show (dat1 m c).Φ t1_0.castSucc = iprop(Pipeline.scopedRest spec1 c ∗ (∃ r, prngReg c r) ∗ Xk m c) from rfl,
    show (dat1 m c).Φ t1_0.succ = iprop(Pipeline.scopedRest spec1 c ∗ (∃ r, prngReg c r) ∗ Pipeline.ownSems0 osem1 c ∗ Yk c) from rfl, rest1]
  unfold Xk Yk
  iintro ⟨⟨⟨Hb, ⟨%fo, Ho⟩, ⟨%fl, Hl⟩, Hrest⟩, Hp, ⟨%K, HK⟩, Hc, Hlev⟩, HO, ⟨%d0, H0⟩, ⟨%d1, H1⟩, ⟨%d2, H2⟩⟩
  ihave HO := (owesAt_elim (dat1 m c) _ (O₀ c) rfl) $$ HO
  ihave Ho := (Entails.of_eq (oWhole c fo)) $$ Ho
  ihave Hl := (Entails.of_eq (lWhole c fl)) $$ Hl
  icases Ho with ⟨Ho0, Ho1, Ho2, Ho3⟩
  icases Hl with ⟨Hl0, Hl1, Hl2, Hl3⟩
  ihave H0 := (stg_elim c cc1_stg0_0 (oD m c)) $$ H0
  ihave H1 := (stg_elim c cc1_stg1_0 (lD m c)) $$ H1
  ihave H2 := (stg_elim c cc1_stg2_0 _) $$ H2
  iapply (redRun (oD m) (lD m) K c _)
  isplitl [Hb Ho0 Ho1 Ho2 Ho3 Hl0 Hl1 Hl2 Hl3 HK Hc Hlev HO H0 H1 H2]
  · unfold redPre slotsAny
    isplitl [HK]; · iexact HK
    isplitl [Hc]; · iexact Hc
    isplitl [Hlev]; · iexact Hlev
    isplitl [Ho0 Ho1 Ho2 Ho3 Hl0 Hl1 Hl2 Hl3]
    · isplitl [Ho0 Ho1 Ho2 Ho3]
      · isplitl [Ho0]; · iexists _; iexact Ho0
        isplitl [Ho1]; · iexists _; iexact Ho1
        isplitl [Ho2]; · iexists _; iexact Ho2
        iexists _; iexact Ho3
      · isplitl [Hl0]; · iexists _; iexact Hl0
        isplitl [Hl1]; · iexists _; iexact Hl1
        isplitl [Hl2]; · iexists _; iexact Hl2
        iexists _; iexact Hl3
    isplitl [H0]; · iexact H0
    isplitl [H1]; · iexact H1
    isplitl [H2]; · iexists _; iexact H2
    isplitl [Hb]; · iexact Hb
    iexact HO
  unfold redPost
  iintro ⟨HB, HS, ⟨Ho, Hl⟩, H0, H1, H2, Hb, HO⟩
  ihave Ho := (Entails.of_eq (oWhole c (OB (oD m) c)).symm) $$ Ho
  ihave Hl := (Entails.of_eq (lWhole c (LB (lD m) c)).symm) $$ Hl
  isplitl [HB HS Ho Hl Hb Hrest Hp]
  · isplitl [Hb Ho Hl Hrest]
    · isplitl [Hb]; · iexact Hb
      isplitl [Ho]; · iexists _; iexact Ho
      isplitl [Hl]; · iexists _; iexact Hl
      iexact Hrest
    isplitl [Hp]; · iexact Hp
    isplitl [HS]; · unfold Pipeline.ownSems0; iexact HS
    iexact HB
  isplitl [HO]; · iapply (owesAt_intro (dat1 m c) _ 0 rfl rfl) $$ HO
  isplitl [H0]; · iapply (stg_intro c cc1_stg0_0 (oD m c)) $$ H0
  isplitl [H1]; · iapply (stg_intro c cc1_stg1_0 (lD m c)) $$ H1
  iapply (stg_intro c cc1_stg2_0 (divO (sumO (oD m) c) (sumL (lD m) c))) $$ H2

end Cert.Ring

end
-- ==== Proof.Regs.lean ====
/-
  The two calls as regions: what each is entered with and left at.
-/
module

public import proofs.«01_k».proof.Proof.Body

@[expose] public section

set_option maxRecDepth 16384

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

def pdats : (p : Fin 2) → (c : Dev nD) → Dat τ (Elt F) Unit ℕ UU ℕ (cfgs p) c
  | ⟨0, _⟩ => dat0 m
  | ⟨1, _⟩ => dat1 m

local notation "ℝ𝕊" => Pipeline.RegionSeg (pcfgs (F := F)) adm (pdats m) () defs₀ 𝒱₀ L lv

theorem kitP (p : Fin 2) : Pipeline.PLaunchFacts (nD := nD) (τ := τ) (pcfgs (F := F)) p :=
  match p with
  | ⟨0, _⟩ => { cellOf_inj := fun a => by rw [Subsingleton.elim a adm]; exact cellOf_inj
                win := winFacts0, pre := Pipeline.PreFacts.none _, block_pos := block_pos0, arr_whole := arr_whole0, stage_whole := stage_whole0 }
  | ⟨1, _⟩ => { cellOf_inj := fun a => by rw [Subsingleton.elim a adm]; exact cellOf_inj
                win := winFacts1, pre := Pipeline.PreFacts.none _, block_pos := block_pos1, arr_whole := arr_whole1, stage_whole := stage_whole1 }

/-! ## The first call: the protocol's state rides past it -/

/-- What a device carries from the launch to the reducing call. -/
def Tk (c : Dev nD) : sProp 𝕄 := iprop((∃ K, ghost (oD m) (lD m) K c) ∗ creds c)

/-- The unscoped buffers that no window of either call is over. -/
abbrev off0 : Finset (DevRef τ sig) := Pipeline.ucRefs τ sig \ Pipeline.arrRefs (τ := τ) (pcfgs (F := F) 0).spec
abbrev off1 : Finset (DevRef τ sig) := Pipeline.ucRefs τ sig \ Pipeline.arrRefs (τ := τ) (pcfgs (F := F) 1).spec

theorem stage_lv0 : ∀ (w : Fin 5) (s : Fin (spec0 w).nbuf), lvs (.dma ((spec0 w).sem s)) = 0 := by decide
theorem stage_lv1 : ∀ (w : Fin 3) (s : Fin (spec1 w).nbuf), lvs (.dma ((spec1 w).sem s)) = 0 := by decide

theorem cut0 : Pipeline.LevelCut (pcfgs (F := F)) adm () L lv 0 O₀ (fun _ => 0) where
  hι c w s := by rw [L_tc]; exact Finset.mem_singleton_self _
  hιb c w s := (stage_lv0 w s).le
  hD c g i h := ⟨by unfold L; rw [if_pos (above8 c g i h).1]; exact Finset.mem_singleton_self _, (above8 c g i h).2⟩

theorem hW0 (c : Dev nD) (w : Fin cfg0.W) : (dat0 m c).arrAt w 0 = V1 m c (Pipeline.arrRef spec0 w) := rfl

theorem hW0' (c : Dev nD) (w : Fin 5) : (dat0 m c).arrAt w cfg0.N = V2 m (outs m) c (Pipeline.arrRef spec0 w) := by
  match w with
  | ⟨0, _⟩ => exact ((dat0 m c).arrAt_in 0 rfl cfg0.N).trans (V2_of m (outs m) c main_v1 (by decide)).symm
  | ⟨1, _⟩ => exact ((dat0 m c).arrAt_in 1 rfl cfg0.N).trans (V2_of m (outs m) c main_v2 (by decide)).symm
  | ⟨2, _⟩ => exact ((dat0 m c).arrAt_in 2 rfl cfg0.N).trans (V2_of m (outs m) c main_v3 (by decide)).symm
  | ⟨3, _⟩ => exact (last3 m c).trans (V2_o m c).symm
  | ⟨4, _⟩ => exact (last4 m c).trans (V2_l m c).symm

set_option backward.isDefEq.respectTransparency.types false in
def reg0 : ℝ𝕊 0 :=
  Pipeline.RegionSeg.ofHeld (pcfgs (F := F)) adm (pdats m) () defs₀ 𝒱₀ L lv 0 O₀ (fun _ => iprop(emp)) (fun _ => iprop(emp)) (kitP 0) rfl
    (fun c => (body0 m c).loose) (fun _ _ => rfl) (fun _ => rfl) (fun c w => by unfold Dat.share; split <;> rfl)
    (fun c => by
      show _ ⊢ Pipeline.scopedRest spec0 c
      iintro ⟨H, -⟩; iexact H)
    (fun c => by
      show Pipeline.scopedRest spec0 c ⊢ _
      iintro H
      isplitl [H]; · iexact H
      iempintro)
    (fun _ => 0) cut0
    (fun c => iprop(StableHlo.held (c.tc : Thread nD τ) (off0 (F := F)) (V1 m c) ∗ (∃ r, prngReg c r) ∗ Tk m c))
    (V1 m) (V2 m (outs m)) (hW0 m) (hW0' m)

/-! ## The second call -/

theorem hopen1 (c : Dev nD) : iprop(Tk m c ∗ Pipeline.ownSems0 osem1 c ∗ levAts L lv) ⊢ (|={Set.univ}=> Xk m c : sProp 𝕄) := by
  unfold Tk Xk Pipeline.ownSems0
  iintro ⟨⟨⟨%K, Hg⟩, Hc⟩, Hs, Hlev⟩
  imod (ghost_open (oD m) (lD m) K c) $$ [Hg Hs] with Ho
  · isplitl [Hg]; · iexact Hg
    iexact Hs
  imodintro
  isplitl [Ho]; · iexists K; iexact Ho
  isplitl [Hc]; · iexact Hc
  iexact Hlev

theorem cut1 : Pipeline.LevelCutOwed (pcfgs (F := F)) adm (pdats m) () L lv 1 (fun _ => 0) where
  hι c w s := by rw [L_tc]; exact Finset.mem_singleton_self _
  hιb c w s := (stage_lv1 w s).le
  hD c t g i h := by
    have h' : 0 < owe1 c t.val g i := h
    revert h'
    generalize t.val = n
    cases n with
    | zero => intro h'; exact ⟨by unfold L; rw [if_pos (above8 c g i h').1]; exact Finset.mem_singleton_self _, (above8 c g i h').2⟩
    | succ n => intro h'; exact absurd h' (Nat.lt_irrefl 0)

theorem v5_off1 (b : DevRef τ sig) (hb : b ∈ off1 (F := F)) : b ≠ Proc.devRef .tc main_v5 := by
  rintro rfl
  refine (Finset.mem_sdiff.mp hb).2 ?_
  show Proc.devRef .tc main_v5 ∈ Pipeline.arrRefs (τ := τ) spec1
  decide

theorem hW1 (c : Dev nD) (w : Fin cfg1.W) : (dat1 m c).arrAt w 0 = V2 m (outs m) c (Pipeline.arrRef spec1 w) := rfl

theorem hW1' (c : Dev nD) (w : Fin 3) : (dat1 m c).arrAt w cfg1.N = V3 m (outs m) c (Pipeline.arrRef spec1 w) := by
  match w with
  | ⟨0, _⟩ => exact ((dat1 m c).arrAt_in 0 rfl cfg1.N).trans (V3_of m (outs m) c main_v4_0 (by decide)).symm
  | ⟨1, _⟩ => exact ((dat1 m c).arrAt_in 1 rfl cfg1.N).trans (V3_of m (outs m) c main_v4_1 (by decide)).symm
  | ⟨2, _⟩ => exact (last1_2 m c).trans (V3_r m c).symm

set_option backward.isDefEq.respectTransparency.types false in
def reg1 : ℝ𝕊 1 :=
  Pipeline.RegionSeg.ofTalk (pcfgs (F := F)) adm (pdats m) () defs₀ 𝒱₀ L lv 1 osem1 (by decide : Pipeline.OwnSemFacts spec1 osem1)
    ∅ (off1 (F := F)) (Finset.empty_subset _) (kitP 1) rfl (fun c => (body1 m c).loose)
    (fun _ => 0) O₀ (fun c => (zero_add (O₀ c)).symm) (owed1_last m) (fun _ => rfl) (fun c w => by unfold Dat.share; split <;> rfl)
    (V2 m (outs m)) (V3 m (outs m))
    (fun c b hb => Function.update_of_ne (v5_off1 (F := F) b (Finset.mem_sdiff.mp hb).1) _ _)
    (Tk m) Yk (Xk m) Yk (hopen1 m)
    (fun c => by
      show _ ⊢ iprop(Pipeline.scopedRest spec1 c ∗ (∃ r, prngReg c r) ∗ Xk m c)
      iintro ⟨Hs, Hp, -, HX⟩
      isplitl [Hs]; · iexact Hs
      isplitl [Hp]; · iexact Hp
      iexact HX)
    (fun c => by
      refine (Entails.of_eq (Phi1_last m c)).trans ?_
      unfold StableHlo.held
      rw [bigSep_empty]
      iintro ⟨Hs, Hp, Ho, HY⟩
      isplitl [Hs]; · iexact Hs
      isplitl [Hp]; · iexact Hp
      isplitr; · iempintro
      isplitl [Ho]; · iexact Ho
      iexact HY)
    (fun c => by iintro H; imodintro; iexact H)
    (fun _ => 0) (cut1 m)
    (fun _ => iprop(emp)) (hW1 m) (hW1' m)

/-! ## Between the calls -/

theorem sub0 : Pipeline.arrRefs (τ := τ) (pcfgs (F := F) 0).spec ⊆ Pipeline.ucRefs τ sig := Pipeline.arrRefs_sub_ucRefs spec0 (by decide)
theorem sub1 : Pipeline.arrRefs (τ := τ) (pcfgs (F := F) 1).spec ⊆ Pipeline.ucRefs τ sig := Pipeline.arrRefs_sub_ucRefs spec1 (by decide)

/-- A device's rest: the generator register, the protocol's state and its dues; at the end the barrier's counter. -/
def E (j : Fin 3) (c : Dev nD) : sProp 𝕄 := match j with
  | ⟨0, _⟩ => iprop((∃ r, prngReg c r) ∗ Tk m c ∗ due c (O₀ c))
  | ⟨1, _⟩ => iprop((∃ r, prngReg c r) ∗ Tk m c ∗ due c (O₀ c))
  | ⟨2, _⟩ => iprop((∃ r, prngReg c r) ∗ Yk c ∗ due c 0)

theorem reg0_pre (c : Dev nD) : iprop(StableHlo.held (c.tc : Thread nD τ) (Pipeline.ucRefs τ sig) (V1 m c) ∗ E m 0 c) ⊢ (reg0 m).pre c := by
  show _ ⊢ iprop(StableHlo.held (c.tc : Thread nD τ) (Pipeline.arrRefs (τ := τ) (pcfgs (F := F) 0).spec) (V1 m c) ∗ emp
    ∗ (StableHlo.held (c.tc : Thread nD τ) (off0 (F := F)) (V1 m c) ∗ (∃ r, prngReg c r) ∗ Tk m c) ∗ ∃ Wd, owes (c : Thread nD τ) (O₀ c) Wd)
  rw [StableHlo.held_sub_split (c.tc : Thread nD τ) (sub0 (F := F)) (V1 m c)]
  show iprop(_ ∗ (∃ r, prngReg c r) ∗ Tk m c ∗ due c (O₀ c)) ⊢ _
  unfold due
  iintro ⟨⟨Ha, Hr⟩, Hp, HT, HO⟩
  isplitl [Ha]; · iexact Ha
  isplitr; · iempintro
  isplitr [HO]
  · isplitl [Hr]; · iexact Hr
    isplitl [Hp]; · iexact Hp
    iexact HT
  · iexact HO

theorem held_off0 (c : Dev nD) : (StableHlo.held (c.tc : Thread nD τ) (off0 (F := F)) (V1 m c) : sProp 𝕄)
    = StableHlo.held (c.tc : Thread nD τ) (off0 (F := F)) (V2 m (outs m) c) :=
  StableHlo.held_congr _ fun b hb => by
    have h0 : b ≠ Proc.devRef .tc main_v4_0 := by
      rintro rfl
      refine (Finset.mem_sdiff.mp hb).2 ?_
      show Proc.devRef .tc main_v4_0 ∈ Pipeline.arrRefs (τ := τ) spec0
      decide
    have h1 : b ≠ Proc.devRef .tc main_v4_1 := by
      rintro rfl
      refine (Finset.mem_sdiff.mp hb).2 ?_
      show Proc.devRef .tc main_v4_1 ∈ Pipeline.arrRefs (τ := τ) spec0
      decide
    unfold V2
    rw [Function.update_of_ne h1, Function.update_of_ne h0]

theorem reg0_post (c : Dev nD) : (reg0 m).post c ⊢ iprop(StableHlo.held (c.tc : Thread nD τ) (Pipeline.ucRefs τ sig) (V2 m (outs m) c) ∗ E m 1 c) := by
  show iprop(StableHlo.held (c.tc : Thread nD τ) (Pipeline.arrRefs (τ := τ) (pcfgs (F := F) 0).spec) (V2 m (outs m) c) ∗ emp
    ∗ (StableHlo.held (c.tc : Thread nD τ) (off0 (F := F)) (V1 m c) ∗ (∃ r, prngReg c r) ∗ Tk m c) ∗ ∃ Wd, owes (c : Thread nD τ) (O₀ c) Wd) ⊢ _
  rw [StableHlo.held_sub_split (c.tc : Thread nD τ) (sub0 (F := F)) (V2 m (outs m) c), held_off0]
  show _ ⊢ iprop(_ ∗ (∃ r, prngReg c r) ∗ Tk m c ∗ due c (O₀ c))
  unfold due
  iintro ⟨Ha, -, ⟨Hr, Hp, HT⟩, HO⟩
  isplitl [Ha Hr]
  · isplitl [Ha]; · iexact Ha
    iexact Hr
  isplitl [Hp]; · iexact Hp
  isplitl [HT]; · iexact HT
  iexact HO

theorem reg1_pre (c : Dev nD) : iprop(StableHlo.held (c.tc : Thread nD τ) (Pipeline.ucRefs τ sig) (V2 m (outs m) c) ∗ E m 1 c) ⊢ (reg1 m).pre c := by
  show _ ⊢ iprop(StableHlo.held (c.tc : Thread nD τ) (Pipeline.arrRefs (τ := τ) (pcfgs (F := F) 1).spec) (V2 m (outs m) c) ∗ (∃ r, prngReg c r)
    ∗ (StableHlo.held (c.tc : Thread nD τ) (off1 (F := F)) (V2 m (outs m) c) ∗ emp) ∗ Tk m c ∗ ∃ Wd, owes (c : Thread nD τ) (0 + O₀ c) Wd)
  rw [StableHlo.held_sub_split (c.tc : Thread nD τ) (sub1 (F := F)) (V2 m (outs m) c), zero_add]
  show iprop(_ ∗ (∃ r, prngReg c r) ∗ Tk m c ∗ due c (O₀ c)) ⊢ _
  unfold due
  iintro ⟨⟨Ha, Hr⟩, Hp, HT, HO⟩
  isplitl [Ha]; · iexact Ha
  isplitl [Hp]; · iexact Hp
  isplitl [Hr]
  · isplitl [Hr]; · iexact Hr
    iempintro
  isplitl [HT]; · iexact HT
  iexact HO

theorem reg1_post (c : Dev nD) : (reg1 m).post c ⊢ iprop(StableHlo.held (c.tc : Thread nD τ) (Pipeline.ucRefs τ sig) (V3 m (outs m) c) ∗ E m 2 c) := by
  show iprop(StableHlo.held (c.tc : Thread nD τ) (Pipeline.arrRefs (τ := τ) (pcfgs (F := F) 1).spec) (V3 m (outs m) c) ∗ (∃ r, prngReg c r)
    ∗ (StableHlo.held (c.tc : Thread nD τ) (off1 (F := F)) (V3 m (outs m) c) ∗ emp) ∗ Yk c ∗ ∃ Wd, owes (c : Thread nD τ) (0 : CellTallies nD τ sig Unit) Wd) ⊢ _
  rw [StableHlo.held_sub_split (c.tc : Thread nD τ) (sub1 (F := F)) (V3 m (outs m) c)]
  show _ ⊢ iprop(_ ∗ (∃ r, prngReg c r) ∗ Yk c ∗ due c 0)
  unfold due
  iintro ⟨Ha, Hp, ⟨Hr, -⟩, HY, HO⟩
  isplitl [Ha Hr]
  · isplitl [Ha]; · iexact Ha
    iexact Hr
  isplitl [Hp]; · iexact Hp
  isplitl [HY]; · iexact HY
  iexact HO

end Cert.Ring

end
-- ==== Proof.Launch.lean ====
/-
  The launch: the cells' invariants, the round tokens dealt to the devices that use them, and the credit for what the
  neighbours owe.
-/
module

public import proofs.«01_k».proof.Proof.Regs

@[expose] public section

set_option maxRecDepth 16384

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-! ## The cells and the tokens -/

theorem osem1_inj : Function.Injective osem1 := by decide
theorem osem1_ne_bar : ∀ j : Fin 12, osem1 j ≠ .reg barS := by decide

def barEmb : Dev nD ↪ GSem nD τ sig := ⟨fun c => barCell c, fun _ _ h => congrArg (fun g : GSem nD τ sig => g.1.1) h⟩
def cellEmb : Dev nD × Fin 12 ↪ GSem nD τ sig :=
  ⟨fun x => cell x.1 x.2, fun _ _ h =>
    Prod.ext (congrArg (fun g : GSem nD τ sig => g.1.1) h) (osem1_inj (congrArg Prod.snd h))⟩

abbrev barCells : Finset (GSem nD τ sig) := Finset.univ.map barEmb
abbrev ownCells : Finset (GSem nD τ sig) := Finset.univ.map cellEmb
abbrev allCells : Finset (GSem nD τ sig) := barCells ∪ ownCells

/-- A device's fourteen duties: two of its barrier cell, one of each transfer cell. -/
def tokKey (k : Fin 14) : SemLoc sig × Bool :=
  if h : k.val < 12 then (osem1 ⟨k.val, h⟩, false) else (.reg barS, decide (k.val = 12))
theorem tokKey_inj : Function.Injective tokKey := by decide
def ringToks : Finset (GSem nD τ sig × ℕ × Bool) :=
  Finset.univ.map ⟨fun x : Dev nD × Fin 14 => (((x.1 : Thread nD τ), (tokKey x.2).1), 0, (tokKey x.2).2), fun _ _ h =>
    Prod.ext (congrArg (fun t : GSem nD τ sig × ℕ × Bool => t.1.1.1) h)
      (tokKey_inj (Prod.ext (congrArg (fun t : GSem nD τ sig × ℕ × Bool => t.1.2) h)
        (congrArg (fun t : GSem nD τ sig × ℕ × Bool => t.2.2) h)))⟩

theorem disjoint_cells : Disjoint barCells ownCells := by
  rw [Finset.disjoint_left]
  rintro g h₁ h₂
  obtain ⟨c, -, rfl⟩ := Finset.mem_map.mp h₁
  obtain ⟨x, -, h⟩ := Finset.mem_map.mp h₂
  exact osem1_ne_bar x.2 (congrArg Prod.snd h)

theorem bar_mem (c : Dev nD) : barCell c ∈ allCells := Finset.mem_union_left _ (Finset.mem_map_of_mem barEmb (Finset.mem_univ c))
theorem cell_mem (c : Dev nD) (j : Fin 12) : cell c j ∈ allCells :=
  Finset.mem_union_right _ (Finset.mem_map_of_mem cellEmb (Finset.mem_univ (c, j)))

/-- The launch's ghost element. -/
def u₀ : UU :=
  (initOf (Pipeline.cells (Pipeline.pin (pcfgs (F := F)) adm) cellOf_inj) (Pipeline.launchToks (Pipeline.pin (pcfgs (F := F)) adm) cellOf_inj),
    launchOf barCells ownCells ringToks)

/-- The protocol's part of it, kept whole on device `0` until the devices' shares are dealt at once. -/
def G (c : Dev nD) : sProp 𝕄 := if c = 0 then BI.own (ER (launchOf barCells ownCells ringToks)) else iprop(emp)
theorem sum_G : bigSep Finset.univ G = (BI.own (ER (launchOf barCells ownCells ringToks)) : sProp 𝕄) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-! ## Each device's share -/

/-- What every device may consult. -/
def records (κ : GSem nD τ sig → ℕ) : sProp 𝕄 :=
  iprop((bigSep allCells fun g => cellInv ER (ringRd (oD m) (lD m)) (κ g) g) ∗ bigSep barCells fun g => reached ER g 0)

instance records_persistent (κ : GSem nD τ sig → ℕ) : BI.Persistent (records m κ) := by unfold records; infer_instance

section Recs
variable (κ : GSem nD τ sig → ℕ)

theorem inv_at {g : GSem nD τ sig} (hg : g ∈ allCells) : records m κ ⊢ cellInv ER (ringRd (oD m) (lD m)) (κ g) g := by
  unfold records
  iintro ⟨#H, -⟩
  iapply (show (bigSep allCells fun g => (cellInv ER (ringRd (oD m) (lD m)) (κ g) g : sProp 𝕄)) ⊢ cellInv ER (ringRd (oD m) (lD m)) (κ g) g from
    bigSep_elim hg)
  iexact H

theorem invs_at (c : Dev nD) :
    records m κ ⊢ bigSep Finset.univ fun j : Fin 12 => cellInv ER (ringRd (oD m) (lD m)) (κ (cell c j)) (cell c j) := by
  unfold records
  iintro ⟨#H, -⟩
  iapply (show (bigSep allCells fun g => (cellInv ER (ringRd (oD m) (lD m)) (κ g) g : sProp 𝕄))
      ⊢ bigSep Finset.univ fun j : Fin 12 => cellInv ER (ringRd (oD m) (lD m)) (κ (cell c j)) (cell c j) from
    (BI.bigSep_subset (fun g hg => by
      obtain ⟨j, -, rfl⟩ := Finset.mem_map.mp hg
      exact cell_mem c j)).trans (Entails.of_eq
        (bigSep_map (s := Finset.univ) (⟨fun j : Fin 12 => cell c j, fun _ _ h => osem1_inj (congrArg Prod.snd h)⟩ : Fin 12 ↪ GSem nD τ sig)
          (Φ := fun g => (cellInv ER (ringRd (oD m) (lD m)) (κ g) g : sProp 𝕄)))))
  iexact H

theorem reached_at (c : Dev nD) : records m κ ⊢ reached ER (barCell c) 0 := by
  unfold records
  iintro ⟨-, #H⟩
  iapply (show (bigSep barCells fun g => (reached ER g 0 : sProp 𝕄)) ⊢ reached ER (barCell c) 0 from
    bigSep_elim (Finset.mem_map_of_mem barEmb (Finset.mem_univ c)))
  iexact H

end Recs

/-- What stays with device `c`. -/
def share (c : Dev nD) : sProp 𝕄 :=
  iprop(atPos ER (barCell c) 0 ∅ 0 ∗ (bigSep Finset.univ fun j : Fin 12 => openTok ER (cell c j)) ∗ toks c)

theorem ghost_intro (κ : GSem nD τ sig → ℕ) (c : Dev nD) :
    iprop(records m κ ∗ share c) ⊢ iprop(∃ K, ghost (oD m) (lD m) K c) := by
  unfold share ghost invs
  iintro ⟨#HR, Hat, Ho, Ht⟩
  iexists κ
  isplitr
  · isplitr; · iapply (inv_at m κ (bar_mem c)); iexact HR
    isplitr; · iapply (inv_at m κ (bar_mem (prv c))); iexact HR
    isplitr; · iapply (inv_at m κ (bar_mem (nxt c))); iexact HR
    isplitr; · iapply (invs_at m κ c); iexact HR
    iapply (invs_at m κ (nxt c)); iexact HR
  isplitl [Hat]; · iexact Hat
  isplitl [Ho]; · iexact Ho
  isplitr; · iapply (reached_at m κ (prv c)); iexact HR
  isplitr; · iapply (reached_at m κ (nxt c)); iexact HR
  iexact Ht

/-- The tokens of one cell-owner's duties that its right neighbour, its left neighbour and it itself pay. -/
def tokR (c : Dev nD) : sProp 𝕄 := dutyTok ER (barCell c) 0 true
def tokL (c : Dev nD) : sProp 𝕄 :=
  iprop(dutyTok ER (barCell c) 0 false
    ∗ dutyTok ER (cell c 3) 0 false ∗ dutyTok ER (cell c 4) 0 false ∗ dutyTok ER (cell c 5) 0 false
    ∗ dutyTok ER (cell c 9) 0 false ∗ dutyTok ER (cell c 10) 0 false ∗ dutyTok ER (cell c 11) 0 false)
def tokS (c : Dev nD) : sProp 𝕄 :=
  iprop(dutyTok ER (cell c 0) 0 false ∗ dutyTok ER (cell c 1) 0 false ∗ dutyTok ER (cell c 2) 0 false
    ∗ dutyTok ER (cell c 6) 0 false ∗ dutyTok ER (cell c 7) 0 false ∗ dutyTok ER (cell c 8) 0 false)

theorem tok_one (c : Dev nD) :
    (bigSep Finset.univ fun k : Fin 14 => (dutyTok ER ((c : Thread nD τ), (tokKey k).1) 0 (tokKey k).2 : sProp 𝕄))
      ⊢ iprop(tokR c ∗ tokL c ∗ tokS c) := by
  rw [bigSep_univ_eq_bigSepL [12, 13, 3, 4, 5, 9, 10, 11, 0, 1, 2, 6, 7, 8] (by decide) (by decide)]
  unfold tokR tokL tokS
  let t (k : Fin 14) : sProp 𝕄 := dutyTok ER ((c : Thread nD τ), (tokKey k).1) 0 (tokKey k).2
  show iprop(t 12 ∗ t 13 ∗ t 3 ∗ t 4 ∗ t 5 ∗ t 9 ∗ t 10 ∗ t 11 ∗ t 0 ∗ t 1 ∗ t 2 ∗ t 6 ∗ t 7 ∗ t 8) ⊢ _
  iintro ⟨H12, H13, H3, H4, H5, H9, H10, H11, H0, H1, H2, H6, H7, H8⟩
  isplitl [H12]; · iexact H12
  isplitl [H13 H3 H4 H5 H9 H10 H11]
  · isplitl [H13]; · iexact H13
    isplitl [H3]; · iexact H3
    isplitl [H4]; · iexact H4
    isplitl [H5]; · iexact H5
    isplitl [H9]; · iexact H9
    isplitl [H10]; · iexact H10
    iexact H11
  isplitl [H0]; · iexact H0
  isplitl [H1]; · iexact H1
  isplitl [H2]; · iexact H2
  isplitl [H6]; · iexact H6
  isplitl [H7]; · iexact H7
  iexact H8

theorem tok_dealt (c : Dev nD) : iprop(tokR (prv c) ∗ tokL (nxt c) ∗ tokS c) ⊢ (toks c : sProp 𝕄) := by
  unfold tokR tokL tokS toks
  iintro ⟨HR, ⟨HL, H6⟩, HS⟩
  isplitl [HR]; · iexact HR
  isplitl [HL]; · iexact HL
  isplitl [H6]; · iexact H6
  iexact HS

/-- Every token, each dealt to the device that pays its duty. -/
theorem toks_deal : bigSep ringToks (fun x => (dutyTok ER x.1 x.2.1 x.2.2 : sProp 𝕄)) ⊢ bigSep Finset.univ fun c : Dev nD => toks c := by
  unfold ringToks
  rw [bigSep_map, bigSep_univ_prod]
  refine (bigSep_mono fun c _ => tok_one c).trans ?_
  rw [bigSep_sep', bigSep_sep', bigSep_univ_equiv ring.symm (fun c : Dev nD => (tokR c : sProp 𝕄)),
    bigSep_univ_equiv ring (fun c : Dev nD => (tokL c : sProp 𝕄)), ← bigSep_sep', ← bigSep_sep']
  exact bigSep_mono fun c _ => tok_dealt c

/-! ## The credit -/

/-- What one cell is owed by the left neighbour of its device, and what by the right one. -/
def dueL (s : SemLoc sig) : ℕ :=
  (if s = osem1 11 then Nl else 0) + (if s = osem1 5 then No else 0) + (if s = osem1 10 then Nl else 0) + (if s = osem1 4 then No else 0)
    + (if s = osem1 9 then Nl else 0) + (if s = osem1 3 then No else 0) + (if s = .reg barS then 1 else 0)
def dueR (s : SemLoc sig) : ℕ := if s = .reg barS then 1 else 0

theorem tally_nxt (d c : Dev nD) (s s' : SemLoc sig) (n : ℕ) :
    (tallyAt ((nxt d : Thread nD τ), s) () n : CellTallies nD τ sig Unit) ((c : Thread nD τ), s') ()
      = if d = prv c then (if s' = s then n else 0) else 0 := by
  rw [tallyAt_apply]
  by_cases h : d = prv c
  · subst h; rw [nxt_prv, if_pos rfl]
    by_cases h' : s' = s
    · subst h'; rw [if_pos ⟨rfl, rfl⟩, if_pos rfl]
    · rw [if_neg h', if_neg fun x => h' (congrArg Prod.snd x.1)]
  · rw [if_neg h, if_neg fun x => h (by rw [show c = nxt d from congrArg (fun g : GSem nD τ sig => g.1.1) x.1, prv_nxt])]

theorem tally_prv (d c : Dev nD) (s s' : SemLoc sig) (n : ℕ) :
    (tallyAt ((prv d : Thread nD τ), s) () n : CellTallies nD τ sig Unit) ((c : Thread nD τ), s') ()
      = if d = nxt c then (if s' = s then n else 0) else 0 := by
  rw [tallyAt_apply]
  by_cases h : d = nxt c
  · subst h; rw [prv_nxt, if_pos rfl]
    by_cases h' : s' = s
    · subst h'; rw [if_pos ⟨rfl, rfl⟩, if_pos rfl]
    · rw [if_neg h', if_neg fun x => h' (congrArg Prod.snd x.1)]
  · rw [if_neg h, if_neg fun x => h (by rw [show c = prv d from congrArg (fun g : GSem nD τ sig => g.1.1) x.1, nxt_prv])]

theorem owed_at (d c : Dev nD) (s : SemLoc sig) :
    O₀ d ((c : Thread nD τ), s) () = (if d = prv c then dueL s else 0) + (if d = nxt c then dueR s else 0) := by
  unfold O₀ T8 T7 T6 T5 T4 T3 T2 T1 T0 barCell cell dueL dueR
  simp only [Pi.add_apply, Finsupp.add_apply, tally_nxt, tally_prv, Pi.zero_apply, Finsupp.zero_apply]
  by_cases h : d = prv c
  · simp only [if_pos h, Nat.zero_add]
  · simp only [if_neg h, Nat.zero_add]

theorem credit_at (c : Dev nD) (s : SemLoc sig) (n : ℕ) (hn : dueL s + dueR s = n) :
    tallyOn ((c : Thread nD τ), s) (launchCredit (Pipeline.owing O₀) 0 ((c : Thread nD τ), s))
      = (tallyAt ((c : Thread nD τ), s) () n : CellTallies nD τ sig Unit) := by
  unfold tallyAt; refine congrArg _ (Finsupp.ext fun u => ?_); cases u
  rw [Pipeline.launchCredit_owing, Finsupp.single_eq_same, Finset.sum_congr rfl fun d _ => owed_at d c s, Finset.sum_add_distrib,
    Finset.sum_ite_eq' Finset.univ (prv c) fun _ => dueL s, Finset.sum_ite_eq' Finset.univ (nxt c) fun _ => dueR s,
    if_pos (Finset.mem_univ _), if_pos (Finset.mem_univ _), hn]

/-- The seven cells that the neighbours owe. -/
def crKey : Fin 7 → SemLoc sig := ![.reg barS, osem1 3, osem1 4, osem1 5, osem1 9, osem1 10, osem1 11]
theorem crKey_inj : Function.Injective crKey := by decide
def crAmt : Fin 7 → ℕ := ![2, No, No, No, Nl, Nl, Nl]

theorem due_at (k : Fin 7) : dueL (crKey k) + dueR (crKey k) = crAmt k := by
  have hne : ∀ i j : Fin 7, i ≠ j → crKey i ≠ crKey j := fun i j h e => h (crKey_inj e)
  have e : ∀ i : Fin 7, dueL (crKey i) = (if i = 6 then Nl else 0) + (if i = 3 then No else 0) + (if i = 5 then Nl else 0)
      + (if i = 2 then No else 0) + (if i = 4 then Nl else 0) + (if i = 1 then No else 0) + (if i = 0 then 1 else 0) := fun i => by
    unfold dueL
    simp only [← crKey_inj.eq_iff (a := i)]
    rfl
  have e' : ∀ i : Fin 7, dueR (crKey i) = if i = 0 then 1 else 0 := fun i => by
    unfold dueR
    simp only [← crKey_inj.eq_iff (a := i)]
    rfl
  rw [e, e']
  fin_cases k <;> simp [crAmt]

theorem cred_launch (c : Dev nD) : (Pipeline.launchCred O₀ c : sProp 𝕄) ⊢ creds c := by
  let t (k : Fin 7) : sProp 𝕄 := cred (tallyAt ((c : Thread nD τ), crKey k) () (crAmt k))
  have h : (Pipeline.launchCred O₀ c : sProp 𝕄) ⊢ bigSep Finset.univ t := by
    unfold Pipeline.launchCred
    refine (BI.bigSep_subset (Finset.subset_univ (Finset.univ.map ⟨crKey, crKey_inj⟩))).trans ?_
    rw [bigSep_map]
    exact bigSep_mono fun k _ => Entails.of_eq (congrArg cred (credit_at c (crKey k) _ (due_at k)))
  refine h.trans ?_
  rw [bigSep_univ_eq_bigSepL [0, 1, 2, 3, 4, 5, 6] (by decide) (by decide)]
  show iprop(t 0 ∗ t 1 ∗ t 2 ∗ t 3 ∗ t 4 ∗ t 5 ∗ t 6) ⊢ _
  unfold creds
  exact .rfl

end Cert.Ring

end
-- ==== Proof.Run.lean ====
/-
  The run of the whole program: from any memory with every counter at zero it ends with the arguments unchanged, the result
  at the last valuation's contents, and every counter back at zero.
-/
module

public import proofs.«01_k».proof.Proof.Launch

@[expose] public section

set_option maxRecDepth 16384

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev tn (c : Dev nD) : sProp 𝕄 := iprop(StableHlo.held (c : Thread nD τ) (Pipeline.ucRefs τ sig) (V4 m (outs m) c) ∗ semVal (barCell c) 0)
abbrev t0 (c : Dev nD) : sProp 𝕄 := iprop(StableHlo.held (c : Thread nD τ) (Pipeline.ucRefs τ sig) (V0 m c) ∗ E m 0 c)

/-- What of a device's launch holdings is not the protocol's ghost state. -/
def bundle (c : Dev nD) : sProp 𝕄 :=
  iprop(StableHlo.held (c : Thread nD τ) (Pipeline.ucRefs τ sig) (V0 m c) ∗ creds c ∗ owes (c : Thread nD τ) (O₀ c) ∅ ∗ ∃ r, prngReg c r)

theorem t0_intro (κ : GSem nD τ sig → ℕ) (c : Dev nD) : iprop(records m κ ∗ (share c ∗ bundle m c)) ⊢ t0 m c := by
  show _ ⊢ iprop(_ ∗ (∃ r, prngReg c r) ∗ Tk m c ∗ due c (O₀ c))
  unfold bundle Tk due
  iintro ⟨#HR, Hs, Hh, Hc, HO, Hp⟩
  isplitl [Hh]; · iexact Hh
  isplitl [Hp]; · iexact Hp
  isplitr [HO]
  · isplitl [Hs]
    · iapply (ghost_intro m κ c)
      isplitr; · iexact HR
      iexact Hs
    iexact Hc
  iexists ∅; iexact HO

theorem unscoped_eq : ∀ s : SemLoc sig, s.isScoped .tc = false → s = .reg barS := by decide

theorem unscopedSems0_eq (c : Dev nD) : (unscopedSems0 c : sProp 𝕄) = semVal (barCell c) 0 := by
  unfold unscopedSems0
  rw [show (Finset.univ.filter fun s : SemLoc sig => ¬ s.isScoped .tc) = {SemLoc.reg barS} from by decide, BI.bigSep_singleton]

theorem core_split (c : Dev nD) : iprop(unscopedBufs c (fun b => m ((c.tc : Thread nD τ).loc b)) ∗ unscopedSems0 c
      ∗ owes (c.tc : Thread nD τ) (O₀ c) ∅ ∗ Pipeline.launchCred O₀ c ∗ prngReg c (ρ c) ∗ G c)
    ⊢ (iprop(bundle m c ∗ (semVal (barCell c) 0 ∗ G c)) : sProp 𝕄) := by
  rw [unscopedSems0_eq, show unscopedBufs c (fun b => m ((c.tc : Thread nD τ).loc b))
    = (StableHlo.held (c.tc : Thread nD τ) (Pipeline.ucRefs τ sig) (V0 m c) : sProp 𝕄) from
    Pipeline.unscopedBufs_held (Ix := Unit) (Name := ℕ) (U := UU) (Lvl := ℕ) c (V0 m c)]
  unfold bundle
  iintro ⟨Hh, Hus, HO, Hcr, Hp, HG⟩
  ihave Hc := (cred_launch (F := F) c) $$ Hcr
  isplitl [Hh Hc HO Hp]
  · isplitl [Hh]; · iexact Hh
    isplitl [Hc]; · iexact Hc
    isplitl [HO]; · iexact HO
    iexists (ρ c); iexact Hp
  isplitl [Hus]; · iexact Hus
  iexact HG

theorem init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (|={Set.univ}=> bigSep Finset.univ (t0 m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep ownCells (fun g => (openTok ER g : sProp 𝕄))
      ⊢ bigSep Finset.univ (fun c : Dev nD => bigSep Finset.univ fun j : Fin 12 => openTok ER (cell c j)) :=
    Entails.of_eq (by rw [bigSep_map, bigSep_univ_prod]; rfl)
  iintro ⟨H, -⟩
  ihave H' := (show (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from
    bigSep_mono fun c _ => core_split m ρ c) $$ H
  ihave H2 := (Entails.of_eq (bigSep_sep' ..)) $$ H'; icases H2 with ⟨HB, H3⟩
  ihave H4 := (Entails.of_eq (bigSep_sep' ..)) $$ H3; icases H4 with ⟨Hv, HG⟩
  ihave Hu := (Entails.of_eq (sum_G (F := F))) $$ HG
  imod (Rounds.fund_launch ER (ringRd (oD m) (lD m)) disjoint_cells (fun g _ h => h) ringToks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(share c ∗ bundle m c)) fun c _ => t0_intro m κ c)
  isplitr
  · unfold records
    isplitr; · iexact Hinv
    iexact Hr
  iapply (Entails.of_eq (bigSep_sep' ..).symm)
  isplitr [HB]
  · unfold share
    iapply (Entails.of_eq (bigSep_sep' ..).symm); isplitl [Hat]; · iapply hat $$ Hat
    iapply (Entails.of_eq (bigSep_sep' ..).symm); isplitl [Hopen]; · iapply hopen $$ Hopen
    iapply (toks_deal (F := F)) $$ Htok
  · iexact HB

/-- The contents of an unscoped buffer at the end. -/
def atEnd (s : MemSt nD τ sig (Elt F)) (c : Dev nD) : Prop :=
  s.mem ((c.tc : Thread nD τ).loc main_v6) = V4 m (outs m) c main_v6
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)

theorem read_end (c : Dev nD) (s : Phys nD τ sig (Elt F)) :
    iprop(tn m c ∗ SI s) ⊢ (|={Set.univ}=> iprop(⌜atEnd m s.mem c ∧ s.mem.sem (barCell c) = 0⌝ ∗ SI s) : sProp 𝕄) := by
  unfold tn StableHlo.held
  iintro ⟨⟨Hh, Hb⟩, HSI⟩
  icombine HSI Hb gives %hb
  ihave Hr := (pointsTo_read_all (Pipeline.ucRefs τ sig) (fun b => ((c : Thread nD τ).1, b)) (V4 m (outs m) c) s) $$ [Hh HSI]
  · isplitl [Hh] <;> iassumption
  icases Hr with ⟨%h, HSI⟩
  imodintro
  isplitr
  · ipureintro
    exact ⟨⟨h (Proc.devRef .tc main_v6) (Finset.mem_filter.mpr ⟨StableHlo.devRef_mem_tcRefs main_v6, by decide⟩),
      (h (Proc.devRef .tc main_arg0) (Finset.mem_filter.mpr ⟨StableHlo.devRef_mem_tcRefs main_arg0, by decide⟩)).trans (V4_main_arg0 m (outs m) c),
      (h (Proc.devRef .tc main_arg1) (Finset.mem_filter.mpr ⟨StableHlo.devRef_mem_tcRefs main_arg1, by decide⟩)).trans (V4_main_arg1 m (outs m) c),
      (h (Proc.devRef .tc main_arg2) (Finset.mem_filter.mpr ⟨StableHlo.devRef_mem_tcRefs main_arg2, by decide⟩)).trans (V4_main_arg2 m (outs m) c)⟩,
      by simpa using hb⟩
  · iexact HSI

set_option backward.isDefEq.respectTransparency.types false in
/-- The run. -/
theorem run_main : θ_run defs (onTc (τ := τ) (main (F := F))) ⟨m, fun _ => 0, ρ⟩
    (fun r => (∀ c : Dev nD, atEnd m r.2 c) ∧ r.2.sem = fun _ => 0) :=
  Pipeline.θ_run_regions_kit_dev_sems (pcfgs (F := F)) adm (pdats m) () cellOf_inj EP defs₀ 𝒱₀ L lv m ρ main
    (segs m (outs m) 𝒱₀ L lv (E m) () (pdats m) (reg0 m) (reg1 m))
    (fun c Q => by
      rewrite [main_chain c, Pipeline.Seg.run_eq_chain,
        show (segs m (outs m) 𝒱₀ L lv (E m) () (pdats m) (reg0 m) (reg1 m) c).map Pipeline.Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs, Pipeline.Seg.pipes_host, Pipeline.Seg.pipes_region, Pipeline.Seg.pipes_nil]; decide)
    (O₀ := O₀) (hL := L_of_ne) (G := G) (u₀ := u₀)
    (hu₀ := by
      unfold u₀
      rw [sum_G]
      iintro Hu
      ihave H := (ownU_pair _ _) $$ Hu
      icases H with ⟨HP, HX⟩
      imodintro
      isplitl [HP]; · iexact HP
      iexact HX)
    (T₀ := t0 m) (Tₙ := tn m)
    (hch := fun c => by
      refine ⟨.rfl, reg0_pre m c, (reg0_post m c).trans (reg1_pre m c), reg1_post m c, ?_⟩
      show iprop(StableHlo.held (c : Thread nD τ) (Pipeline.ucRefs τ sig) (V4 m (outs m) c) ∗ (∃ r, prngReg c r) ∗ Yk c ∗ due c 0)
        ⊢ iprop(tn m c ∗ ∃ W, owes (c : Thread nD τ) (0 : CellTallies nD τ sig Unit) W)
      unfold Yk due
      iintro ⟨Hh, -, Hb, HO⟩
      isplitr [HO]
      · isplitl [Hh] <;> iassumption
      · iexact HO)
    (hinit := init m ρ)
    (QY := fun c s => atEnd m s c ∧ s.sem (barCell c) = 0)
    (hfin := read_end m)
    (hQ := fun s h hs => ⟨fun c => (h c).1, sem_eq_zero hs fun c sm hsm => by
      obtain rfl := unscoped_eq sm hsm
      exact (h c).2⟩)

end Cert.Ring

end
-- ==== Proof.Frames.lean ====
/-
  The frames: the kernel's at any float values, from which its two readings are the instances, and the reference's.
-/
module

public import proofs.«01_k».proof.Defs
public import proofs.«01_k».proof.Proof.Run
public import proofs.«01_k».proof.Proof.Gen.Kernel
public import proofs.«01_k».proof.Proof.Gen.ReferenceIdeal.Run
public import Idealize.ShloMosaic.Lib.Quiescent

@[expose] public section

set_option maxRecDepth 16384

noncomputable section

namespace Cert.Ring

open Idealize.ShloMosaic Idealize.ShloMosaic.TcCoe Idealize.SL.Sem

variable {F : FTy → Type} [FloatOps F]

/-- The kernel's body tables at the two namespaces are the same. -/
theorem labels_eq : Cert.Kernel.defs₀ (F := F) = Cert.KernelIdeal.defs₀ (F := F) := by
  unfold Cert.Kernel.defs₀ Cert.KernelIdeal.defs₀
  refine congrArg (Defs.onTc (nD := Cert.KernelIdeal.nD) (τ := Cert.KernelIdeal.τ) (sig := Cert.KernelIdeal.sig)) ?_
  funext l a
  match l, a with
  | 0, (t, s) => rfl
  | 1, (t, s) => rfl
theorem defs_eq : Cert.Kernel.defs (F := F) = Cert.KernelIdeal.defs (F := F) :=
  congrArg (Pipeline.defs Cert.KernelIdeal.pcfgs) labels_eq

theorem frame_kernel : Cert.quiescent_Kernel (hKernel := Cert.Kernel.Gen.facts) := fun m ρ _ => by
  rw [defs_eq]
  exact (θ_run Cert.KernelIdeal.defs _ _).mono (fun _ h => ⟨fun c => (h.1 c).2, h.2⟩) (run_main (F := Bits) m ρ)

theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (run_main (F := Ideal) m ρ)

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems rfl r.2⟩)
    (Cert.ReferenceIdeal.Value.run (F := Ideal) m ρ)

end Cert.Ring

end
-- ==== Proof.Soft.lean ====
/-
  The law behind the claim, on extended reals: weights `exp (s n)` summed and weighted values divided by that sum are
  the values weighted by `exp (s n - t)` over their sum, for any real `t` — the scores `s` being real. The values may be
  infinite. Also: the sums of four devices in ring order are the sums over the four blocks, in any order.
-/
module

public import Idealize.ShloMosaic.Lib.Pointwise
public import Mathlib.Data.EReal.Operations

@[expose] public section

noncomputable section

namespace Cert.Soft

open Idealize.ShloMosaic

/-- A nonnegative real factor goes through any sum. -/
theorem sum_mul_coe {ι : Type*} (s : Finset ι) (f : ι → EReal) {r : ℝ} (hr : 0 ≤ r) :
    (∑ n ∈ s, f n) * (r : EReal) = ∑ n ∈ s, f n * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

theorem sum_coe {ι : Type*} (s : Finset ι) (f : ι → ℝ) : ∑ n ∈ s, (f n : EReal) = ((∑ n ∈ s, f n : ℝ) : EReal) := by
  classical
  induction s using Finset.induction_on with
  | empty => simp
  | insert a s ha ih => rw [Finset.sum_insert ha, Finset.sum_insert ha, ih, EReal.coe_add]

/-- An extended real that is neither infinity. -/
def IsReal (x : EReal) : Prop := ∃ r : ℝ, x = r

theorem IsReal.of_ne {x : EReal} (h : x ≠ ⊥) (h' : x ≠ ⊤) : IsReal x := ⟨x.toReal, (EReal.coe_toReal h' h).symm⟩
theorem IsReal.mul {x y : EReal} : IsReal x → IsReal y → IsReal (x * y) := by
  rintro ⟨a, rfl⟩ ⟨b, rfl⟩; exact ⟨a * b, (EReal.coe_mul a b).symm⟩
theorem IsReal.sum {ι : Type*} {s : Finset ι} {f : ι → EReal} (h : ∀ n, IsReal (f n)) : IsReal (∑ n ∈ s, f n) := by
  choose g hg using h
  exact ⟨∑ n ∈ s, g n, by simp only [hg, sum_coe]⟩

/-- The largest of a nonempty family of reals, begun at `⊥`, is a real. -/
theorem IsReal.max {n : ℕ} {f : Fin (n + 1) → EReal} (h : ∀ k, IsReal (f k)) : IsReal (Finset.univ.fold Max.max ⊥ f) := by
  refine .of_ne (fun hb => ?_) (fun ht => ?_)
  · obtain ⟨r, hr⟩ := h 0
    have : f 0 ≤ ⊥ := hb ▸ (Finset.le_fold_max (f 0)).mpr (.inr ⟨0, Finset.mem_univ _, le_rfl⟩)
    rw [hr] at this
    exact EReal.coe_ne_bot r (le_bot_iff.mp this)
  · have : Finset.univ.fold Max.max ⊥ f < ⊤ := (Finset.fold_max_lt _).mpr ⟨bot_lt_top, fun k _ => show f k < ⊤ by
      obtain ⟨r, hr⟩ := h k; rw [hr]; exact EReal.coe_lt_top r⟩
    exact this.ne ht

/-- The law. -/
theorem weights {n : ℕ} {s : Fin (n + 1) → EReal} {t : EReal} (v : Fin (n + 1) → EReal) (hs : ∀ k, IsReal (s k)) (ht : IsReal t) :
    Ideal.div (∑ k, Ideal.exp (s k) * v k) (∑ k, Ideal.exp (s k))
      = ∑ k, v k * Ideal.div (Ideal.exp (s k - t)) (∑ k', Ideal.exp (s k' - t)) := by
  choose a ha using hs
  obtain ⟨b, rfl⟩ := ht
  have hp : 0 < ∑ k, Real.exp (a k) := Finset.sum_pos (fun k _ => Real.exp_pos _) ⟨0, Finset.mem_univ _⟩
  have hq : 0 < ∑ k, Real.exp (a k - b) := Finset.sum_pos (fun k _ => Real.exp_pos _) ⟨0, Finset.mem_univ _⟩
  simp only [ha, ← EReal.coe_sub, Ideal.exp_coe, sum_coe]
  rw [Ideal.div_coe hp.ne', sum_mul_coe _ _ (one_div_nonneg.mpr hp.le)]
  refine Finset.sum_congr rfl fun k _ => ?_
  rw [Ideal.div_coe hq.ne', mul_comm (Real.exp (a k) : EReal), mul_assoc, ← EReal.coe_mul, ← EReal.coe_mul]
  congr 2
  have : ∑ k, Real.exp (a k - b) = (∑ k, Real.exp (a k)) * (Real.exp b)⁻¹ := by
    rw [Finset.sum_mul]; exact Finset.sum_congr rfl fun k _ => by rw [Real.exp_sub, div_eq_mul_inv]
  rw [this, Real.exp_sub]
  have := Real.exp_ne_zero b
  field_simp

/-- Four blocks, taken in ring order from block `z`, backwards. -/
theorem ring_sum (f : Fin 4 → EReal) (z : Fin 4) :
    f z + f (z + 3) + f (z + 2) + f (z + 1) = ∑ j : Fin 4, f j := by
  rw [Fin.sum_univ_four]
  fin_cases z
  · show f 0 + f 3 + f 2 + f 1 = _; ac_rfl
  · show f 1 + f 0 + f 3 + f 2 = _; ac_rfl
  · show f 2 + f 1 + f 0 + f 3 = _; ac_rfl
  · show f 3 + f 2 + f 1 + f 0 = _; ac_rfl

end Cert.Soft

end
-- ==== Proof.ValK.lean ====
/-
  What the kernel's sums and weights are at an index, as plain sums over extended reals: `oAll` and `lAll` of the
  attention call, read at batch, row, head and lane.
-/
module

public import proofs.«01_k».proof.Proof.Attn2
public import proofs.«01_k».proof.Proof.Reduce
public import Idealize.ShloMosaic.Lib.Pointwise

@[expose] public section

set_option maxRecDepth 16384

noncomputable section

namespace Cert.Soft

open Cert.KernelIdeal Cert.KernelIdeal.Gen
open Idealize.ShloMosaic

/-- The scale the scores are multiplied by. -/
def scale : EReal := Ideal.ofBits .f32 0x3DB504F3#32

/-- Lane `d` of head `h` in a row of all heads. -/
def lane (h : Fin 16) (d : Fin 128) : Fin 2048 := ⟨128 * h.val + d.val, by have := h.isLt; have := d.isLt; omega⟩

theorem pHead_at (h : Fin 16) (q : FVec Ideal S1x8x2048 .f32) (k : FVec Ideal S1x1024x2048 .f32) (i : Fin 8) (t : Fin 1024) :
    Ring.pHead (F := Ideal) h q k (ix2 i t) = Ideal.exp ((∑ x : Fin 128, q (ix3 0 i (lane h x)) * k (ix3 0 t (lane h x))) * scale) := by
  unfold Ring.pHead lane scale
  pointwise

theorem oHead_at (h : Fin 16) (q : FVec Ideal S1x8x2048 .f32) (k v : FVec Ideal S1x1024x2048 .f32) (i : Fin 8) (d : Fin 128) :
    Ring.oHead (F := Ideal) h q k v (fun _ => Ring.zero (F := Ideal)) (ix3 0 i d)
      = ∑ t : Fin 1024, Ring.pHead (F := Ideal) h q k (ix2 i t) * v (ix3 0 t (lane h d)) := by
  unfold Ring.oHead Ring.zero lane
  pointwise

theorem lHead_at (h : Fin 16) (q : FVec Ideal S1x8x2048 .f32) (k : FVec Ideal S1x1024x2048 .f32) (i : Fin 8) :
    Ring.lHead (F := Ideal) h q k (fun _ => Ring.zero (F := Ideal)) (ix3 0 0 i) = ∑ t : Fin 1024, Ring.pHead (F := Ideal) h q k (ix2 i t) := by
  unfold Ring.lHead Ring.zero
  pointwise

/-- The score of row `i` and key row `t` in head `h` of batch `b`. -/
def score (q : FVec Ideal S8x8x16x128 .f32) (k : FVec Ideal S8x1024x16x128 .f32) (b i : Fin 8) (h : Fin 16) (t : Fin 1024) : EReal :=
  (∑ x : Fin 128, q (ix4 b i h x) * k (ix4 b t h x)) * scale

/-- An array with its heads laid side by side. -/
abbrev flatQ (q : FVec Ideal S8x8x16x128 .f32) : FVec Ideal S8x8x2048 .f32 := shapeCast S8x8x2048 q shapeCasts_S8x8x16x128_S8x8x2048
abbrev flatK (k : FVec Ideal S8x1024x16x128 .f32) : FVec Ideal S8x1024x2048 .f32 := shapeCast S8x1024x2048 k shapeCasts_S8x1024x16x128_S8x1024x2048

theorem flatQ_at (q : FVec Ideal S8x8x16x128 .f32) (b i : Fin 8) (h : Fin 16) (x : Fin 128) :
    flatQ q (ix3 b i (lane h x)) = q (ix4 b i h x) := by
  unfold flatQ lane
  pointwise

theorem flatK_at (k : FVec Ideal S8x1024x16x128 .f32) (b : Fin 8) (t : Fin 1024) (h : Fin 16) (x : Fin 128) :
    flatK k (ix3 b t (lane h x)) = k (ix4 b t h x) := by
  unfold flatK lane
  pointwise

theorem qRow_at (q : FVec Ideal S8x8x2048 .f32) (b i : Fin 8) (l : Fin 2048) : Ring.qRow (F := Ideal) b q (ix3 0 i l) = q (ix3 b i l) :=
  congrArg q (funext fun a => by fin_cases a <;> rfl)
theorem kRow_at (k : FVec Ideal S8x1024x2048 .f32) (b : Fin 8) (t : Fin 1024) (l : Fin 2048) :
    Ring.kRow (F := Ideal) b k (ix3 0 t l) = k (ix3 b t l) :=
  congrArg k (funext fun a => by fin_cases a <;> rfl)

theorem lane_div (h : Fin 16) (d : Fin 128) : (lane h d).val / 128 = h.val := by have := d.isLt; simp only [lane]; omega
theorem lane_mod (h : Fin 16) (d : Fin 128) : (lane h d).val % 128 = d.val := by have := d.isLt; simp only [lane]; omega

variable (q : FVec Ideal S8x8x16x128 .f32) (k v : FVec Ideal S8x1024x16x128 .f32) (b i : Fin 8) (h : Fin 16)

theorem weight_at (t : Fin 1024) :
    Ring.pHead (F := Ideal) h (Ring.qRow b (flatQ q)) (Ring.kRow b (flatK k)) (ix2 i t) = Ideal.exp (score q k b i h t) := by
  simp only [pHead_at, qRow_at, kRow_at, flatQ_at, flatK_at, score]

/-- The weighted values of a device's block. -/
theorem oAll_at (d : Fin 128) : Ring.oAll (F := Ideal) (flatQ q) (flatK k) (flatK v) (ix3 b i (lane h d))
    = ∑ t : Fin 1024, Ideal.exp (score q k b i h t) * v (ix4 b t h d) := by
  have hc : Ring.colHead (ix3 0 i (lane h d)) = h := Fin.ext (lane_div h d)
  have hi : Ring.colIn (ix3 0 i (lane h d)) = ix3 0 i d := by
    funext a; fin_cases a
    · rfl
    · rfl
    · exact Fin.ext (show (lane h d).val % 128 = d.val from lane_mod h d)
  have hx : Ring.oAll (F := Ideal) (flatQ q) (flatK k) (flatK v) (ix3 b i (lane h d))
      = Ring.oBlk (Ring.qRow b (flatQ q)) (Ring.kRow b (flatK k)) (Ring.kRow b (flatK v)) (ix3 0 i (lane h d)) := by
    unfold Ring.oAll
    exact congrArg (Ring.oBlk _ _ _) (funext fun a => by fin_cases a <;> rfl)
  rw [hx]
  unfold Ring.oBlk
  rw [hc, hi, oHead_at]
  simp only [weight_at, kRow_at, flatK_at]

/-- The weights of a device's block. -/
theorem lAll_at : Ring.lAll (F := Ideal) (flatQ q) (flatK k) (ix3 b h i) = ∑ t : Fin 1024, Ideal.exp (score q k b i h t) := by
  have hx : Ring.lAll (F := Ideal) (flatQ q) (flatK k) (ix3 b h i)
      = Ring.lHead (F := Ideal) h (Ring.qRow b (flatQ q)) (Ring.kRow b (flatK k)) (fun _ => Ring.zero (F := Ideal)) (ix3 0 0 i) := by
    unfold Ring.lAll Ring.lBlk
    exact congrArg (Ring.lHead h _ _ _) (funext fun a => by fin_cases a <;> rfl)
  rw [hx, lHead_at]
  simp only [weight_at]

end Cert.Soft

end
-- ==== Proof.ValR.lean ====
/-
  What the reference computes, at an index: the values weighted by `exp (s n - t)` over the sum of these, `s` the scores
  of a row against all 4096 key rows and `t` the largest of them.
-/
module

public import proofs.«01_k».proof.Proof.Gen.ReferenceIdeal
public import Idealize.ShloMosaic.Lib.Pointwise

@[expose] public section

noncomputable section

namespace Cert.Soft

open Cert.ReferenceIdeal Cert.ReferenceIdeal.Gen
open Idealize.ShloMosaic

section terms

variable (q : FVec Ideal S8x8x16x128 .f32) (k v : FVec Ideal S8x4096x16x128 .f32)

/-- The scores, scaled. -/
def refS : FVec Ideal S8x16x8x4096 .f32 :=
  mulf (Host.dotGeneral dot_S8x8x16x128_S8x4096x16x128_S8x16x8x4096_3_3_1_1_02_02 none q k)
    (broadcastInDim S8x16x8x4096 ![] bcast_S_S8x16x8x4096 (constant S_ .f32 0x3DB504F3#32))

/-- A quantity of each row, repeated along it. -/
def along (x : FVec Ideal S8x16x8 .f32) : FVec Ideal S8x16x8x4096 .f32 :=
  broadcastInDim S8x16x8x4096 ![0, 1, 2, 3] bcast_S8x16x8x1_S8x16x8x4096_0_1_2_3
    (broadcastInDim S8x16x8x1 ![0, 1, 2] bcast_S8x16x8_S8x16x8x1_0_1_2 x)

/-- The largest score of each row. -/
def refM : FVec Ideal S8x16x8 .f32 :=
  Host.reduce FloatOps.maximumf (refS q k) (constant S_ .f32 0xFF800000#32) reducesTo_S8x16x8x4096_S8x16x8_d3 h_S_

/-- The weights. -/
def refP : FVec Ideal S8x16x8x4096 .f32 := Host.exp (subf (refS q k) (along (refM q k)))

/-- Their sum along each row. -/
def refL : FVec Ideal S8x16x8 .f32 :=
  Host.reduceAdd (refP q k) (constant S_ .f32 0x00000000#32) reducesTo_S8x16x8x4096_S8x16x8_d3 h_S_

/-- The result. -/
def refO : FVec Ideal S8x8x16x128 .f32 :=
  transpose S8x8x16x128 [0, 3, 1, 2]
    (Host.dotGeneral dot_S8x4096x16x128_S8x16x8x4096_S8x16x128x8_1_3_3_2_02_01 none v
      (Host.divf (refP q k) (along (refL q k)))) transposes_S8x16x128x8_S8x8x16x128_0_3_1_2

end terms

variable (q : FVec Ideal S8x8x16x128 .f32) (k v : FVec Ideal S8x4096x16x128 .f32) (b i : Fin 8) (h : Fin 16)

theorem refS_at (n : Fin 4096) :
    refS q k (ix4 b h i n) = (∑ x : Fin 128, q (ix4 b i h x) * k (ix4 b n h x)) * Ideal.ofBits .f32 0x3DB504F3#32 := by
  unfold refS
  pointwise

theorem along_at (x : FVec Ideal S8x16x8 .f32) (n : Fin 4096) : along x (ix4 b h i n) = x (ix3 b h i) := by
  unfold along
  pointwise

theorem refM_at : refM q k (ix3 b h i) = Finset.univ.fold max ⊥ fun n : Fin 4096 => refS q k (ix4 b h i n) := by
  have hb : Ideal.ofBits .f32 0xFF800000#32 = ⊥ := by simp [Ideal.ofBits, Ideal.ieee]
  unfold refM
  pointwise [hb]

theorem refP_at (n : Fin 4096) : refP q k (ix4 b h i n) = Ideal.exp (refS q k (ix4 b h i n) - refM q k (ix3 b h i)) := by
  rw [← along_at b i h (refM q k) n]
  unfold refP
  pointwise

theorem refL_at : refL q k (ix3 b h i) = ∑ n : Fin 4096, refP q k (ix4 b h i n) := by
  unfold refL
  pointwise

theorem refO_at (d : Fin 128) : refO q k v (ix4 b i h d)
    = ∑ n : Fin 4096, v (ix4 b n h d) * Ideal.div (refP q k (ix4 b h i n)) (refL q k (ix3 b h i)) := by
  have hl (n : Fin 4096) : refL q k (ix3 b h i) = along (refL q k) (ix4 b h i n) := (along_at b i h _ n).symm
  rw [Finset.sum_congr rfl fun n _ => by rw [hl n]]
  unfold refO
  pointwise

end Cert.Soft

end
-- ==== Proof.Out.lean ====
/-
  The kernel's result on a device, against the whole arrays: where each device holds its block of the keys and values,
  the ring's sums are sums over all 4096 key rows, so the quotient is the reference's, the queries and keys being real.
-/
module

public import proofs.«01_k».proof.Proof.Soft
public import proofs.«01_k».proof.Proof.ValK
public import proofs.«01_k».proof.Proof.ValR
public import proofs.«01_k».proof.Proof.Body
public import Idealize.ShloMosaic.Lib.Layout

@[expose] public section

set_option maxRecDepth 16384

noncomputable section

namespace Cert.Soft

open Cert.KernelIdeal Cert.KernelIdeal.Gen
open Idealize.ShloMosaic Idealize.ShloMosaic.TcCoe

/-! ## The blocks -/

/-- A device's place along the ring. -/
def place (c : Dev nD) : Fin 4 := ⟨c.val % 4, Nat.mod_lt _ (by decide)⟩

theorem place_prv : ∀ c : Dev nD, place (Ring.prv^[1] c) = place c + 3 ∧ place (Ring.prv^[2] c) = place c + 2
    ∧ place (Ring.prv^[3] c) = place c + 1 := by decide

/-- Row `t` of block `j`. -/
def row (j : Fin 4) (t : Fin 1024) : Fin 4096 := ⟨j.val * 1024 + t.val, by have := j.isLt; have := t.isLt; omega⟩

/-- A device's block of an array cut along the ring. -/
abbrev blk (c : Dev nD) (k : FVec Ideal ReferenceIdeal.S8x4096x16x128 .f32) : FVec Ideal S8x1024x16x128 .f32 :=
  Layout.blockN ⟨4, ![8, 1024, 16, 128]⟩ ⟨4, ![8, 4096, 16, 128]⟩ (Layout.meshBlock [2, 2, 4] ![[], [2], [], []] c) k

theorem place_mesh : ∀ c : Dev nD, Layout.meshLin [2, 2, 4] c.val [2] = (place c).val := by decide

theorem blk_at (c : Dev nD) (k : FVec Ideal ReferenceIdeal.S8x4096x16x128 .f32) (b : Fin 8) (t : Fin 1024) (h : Fin 16) (x : Fin 128) :
    blk c k (ix4 b t h x) = k (ix4 b (row (place c) t) h x) := by
  unfold blk
  rw [Layout.blockN_apply]
  refine congrArg k (funext fun a => Fin.ext ?_)
  rw [Layout.TilesN.idx_val, Layout.meshBlock_val]
  fin_cases a
  · exact (Nat.zero_add _)
  · show Layout.meshLin [2, 2, 4] c.val [2] * 1024 + t.val = (place c).val * 1024 + t.val
    rw [place_mesh]
  · exact (Nat.zero_add _)
  · exact (Nat.zero_add _)

theorem tiles (f : Fin 4096 → EReal) : ∑ n : Fin 4096, f n = ∑ j : Fin 4, ∑ t : Fin 1024, f (row j t) :=
  Fin.sum_univ_tiles 4 1024 rfl f

/-! ## The result at an index -/

section shape

variable (b i : Fin 8) (h : Fin 16) (d : Fin 128)

theorem headed_at (A : FVec Ideal S8x8x2048 .f32) :
    shapeCast S8x8x16x128 A shapeCasts_S8x8x2048_S8x8x16x128 (ix4 b i h d) = A (ix3 b i (lane h d)) := by
  have hx : ix3 b i (lane h d) = ix3 b i (⟨h.val * 128 + d.val, by have := h.isLt; have := d.isLt; omega⟩ : Fin 2048) :=
    congrArg (ix3 b i) (Fin.ext (congrArg (· + d.val) (Nat.mul_comm 128 h.val)))
  rw [hx]
  pointwise

theorem divO_at (A : FVec Ideal S8x8x2048 .f32) (B : FVec Ideal S8x16x8 .f32) :
    Ring.divO (F := Ideal) A B (ix3 b i (lane h d)) = Ideal.div (A (ix3 b i (lane h d))) (B (ix3 b h i)) := by
  have hx : Ring.lIx (ix3 b i (lane h d)) = ix3 b h i := by
    funext a; fin_cases a
    · rfl
    · exact Fin.ext (show (lane h d).val / 128 = h.val from lane_div h d)
    · rfl
  rw [← hx]; rfl

end shape

theorem add_blocks {F : Fin 4 → EReal} {f : Dev nD → EReal} (h : ∀ c, f c = F (place c)) (c : Dev nD) :
    f c + f (Ring.prv^[1] c) + f (Ring.prv^[2] c) + f (Ring.prv^[3] c) = ∑ j : Fin 4, F j := by
  obtain ⟨h1, h2, h3⟩ := place_prv c
  rw [h, h, h, h, h1, h2, h3, ring_sum]

variable (m : (ℓ : Loc nD τ sig) → Buf (Elt Ideal) ℓ)
  (q : FVec Ideal ReferenceIdeal.S8x8x16x128 .f32) (k v : FVec Ideal ReferenceIdeal.S8x4096x16x128 .f32)

/-- Each device holds the queries and its blocks of the keys and values. -/
structure Dealt : Prop where
  q : ∀ c : Dev nD, m ((c.tc : Thread nD τ).loc main_arg0) = q
  k : ∀ c : Dev nD, m ((c.tc : Thread nD τ).loc main_arg1) = blk c k
  v : ∀ c : Dev nD, m ((c.tc : Thread nD τ).loc main_arg2) = blk c v

variable {m q k v}

theorem score_blk (c : Dev nD) (b i : Fin 8) (h : Fin 16) (t : Fin 1024) :
    score q (blk c k) b i h t = refS q k (ix4 b h i (row (place c) t)) := by
  rw [refS_at]
  simp only [score, scale, blk_at]

theorem Dealt.oD (D : Dealt m q k v) (b i : Fin 8) (h : Fin 16) (d : Fin 128) (c : Dev nD) :
    Ring.oD m c (ix3 b i (lane h d))
      = ∑ t : Fin 1024, Ideal.exp (refS q k (ix4 b h i (row (place c) t))) * v (ix4 b (row (place c) t) h d) := by
  have e : Ring.oD m c = Ring.oAll (F := Ideal) (flatQ q) (flatK (blk c k)) (flatK (blk c v)) := by
    rw [← D.q c, ← D.k c, ← D.v c]; rfl
  rw [e, oAll_at]
  simp only [score_blk, blk_at]

theorem Dealt.lD (D : Dealt m q k v) (b i : Fin 8) (h : Fin 16) (c : Dev nD) :
    Ring.lD m c (ix3 b h i) = ∑ t : Fin 1024, Ideal.exp (refS q k (ix4 b h i (row (place c) t))) := by
  have e : Ring.lD m c = Ring.lAll (F := Ideal) (flatQ q) (flatK (blk c k)) := by
    rw [← D.q c, ← D.k c]; rfl
  rw [e, lAll_at]
  simp only [score_blk]

theorem Dealt.res (D : Dealt m q k v) (b i : Fin 8) (h : Fin 16) (d : Fin 128) (c : Dev nD) :
    Ring.res m c (ix3 b i (lane h d))
      = Ideal.div (∑ n : Fin 4096, Ideal.exp (refS q k (ix4 b h i n)) * v (ix4 b n h d))
          (∑ n : Fin 4096, Ideal.exp (refS q k (ix4 b h i n))) := by
  have ho : Ring.sumO (Ring.oD m) c (ix3 b i (lane h d)) = ∑ j : Fin 4, ∑ t : Fin 1024,
      Ideal.exp (refS q k (ix4 b h i (row j t))) * v (ix4 b (row j t) h d) :=
    add_blocks (f := fun c => Ring.oD m c (ix3 b i (lane h d)))
      (F := fun j => ∑ t : Fin 1024, Ideal.exp (refS q k (ix4 b h i (row j t))) * v (ix4 b (row j t) h d))
      (fun c => D.oD b i h d c) c
  have hl : Ring.sumL (Ring.lD m) c (ix3 b h i) = ∑ j : Fin 4, ∑ t : Fin 1024, Ideal.exp (refS q k (ix4 b h i (row j t))) :=
    add_blocks (f := fun c => Ring.lD m c (ix3 b h i))
      (F := fun j => ∑ t : Fin 1024, Ideal.exp (refS q k (ix4 b h i (row j t)))) (fun c => D.lD b i h c) c
  unfold Ring.res
  rw [divO_at, ho, hl, tiles, tiles]

/-! ## The quotient is the reference's -/

theorem scale_real : IsReal (Ideal.ofBits .f32 0x3DB504F3#32) := by
  show IsReal (Ideal.ieee 8 23 0x3DB504F3#32)
  unfold Ideal.ieee
  dsimp only
  rw [if_neg (by decide)]
  split <;> exact ⟨_, rfl⟩

theorem score_real (hq : ∀ j, IsReal (q j)) (hk : ∀ j, IsReal (k j)) (j : ReferenceIdeal.S8x16x8x4096.Idx) : IsReal (refS q k j) := by
  obtain ⟨b, h, i, n, rfl⟩ : ∃ (b : Fin 8) (h : Fin 16) (i : Fin 8) (n : Fin 4096), j = ix4 b h i n := ⟨_, _, _, _, eq_ix4 j⟩
  rw [refS_at]
  exact (IsReal.sum fun _ => (hq _).mul (hk _)).mul scale_real

theorem Dealt.out (D : Dealt m q k v) (hq : ∀ j, IsReal (q j)) (hk : ∀ j, IsReal (k j)) (c : Dev nD) :
    V4 m (Ring.outs m) c main_v6 = refO q k v := by
  have e : V4 m (Ring.outs m) c main_v6 = shapeCast S8x8x16x128 (Ring.res m c) shapeCasts_S8x8x2048_S8x8x16x128 := by
    rw [← Ring.V3_r]; rfl
  rw [e]
  refine funext fun (j : S8x8x16x128.Idx) => ?_
  obtain ⟨b, i, h, d, rfl⟩ : ∃ (b i : Fin 8) (h : Fin 16) (d : Fin 128), j = ix4 b i h d := ⟨_, _, _, _, eq_ix4 j⟩
  rw [headed_at, D.res, refO_at, refL_at, weights (t := refM q k (ix3 b h i)) _ (fun n => score_real hq hk _)]
  · simp only [refP_at]
  · rw [refM_at]
    exact IsReal.max fun n => score_real hq hk _

end Cert.Soft

end
-- ==== Proof.Algebraic.lean ====
/-
  The value claim: from the precondition the queries and keys are real, and the two runs meet in the reference's result.
-/
module

public import proofs.«01_k».proof.Defs
public import proofs.«01_k».proof.Proof.Out
public import proofs.«01_k».proof.Proof.Run
public import proofs.«01_k».proof.Proof.Gen.ReferenceIdeal.Run

@[expose] public section

set_option maxRecDepth 16384

noncomputable section

namespace Cert.Soft

open Cert.KernelIdeal Cert.KernelIdeal.Gen
open Idealize.ShloMosaic Idealize.ShloMosaic.TcCoe Idealize.SL.Sem

theorem pre_facts : Cert.Pre_finite_KernelIdeal.Facts where
  bcast_S_S8x8x16x128 := by decide
  bcast_S_S8x1024x16x128 := by decide

theorem pre_facts_ref : Cert.Pre_finite_ReferenceIdeal.Facts where
  bcast_S_S8x8x16x128 := by decide
  bcast_S_S8x4096x16x128 := by decide

attribute [local instance] pre_facts

/-- The two tests on an entry hold of reals only. -/
theorem real_of_tests (x : EReal)
    (h : IntOp.andi (Ideal.cmp .ogt x (Ideal.ofBits .f32 0xFF800000#32)) (Ideal.cmp .olt x (Ideal.ofBits .f32 0x7F800000#32)) = 1#1) :
    IsReal x := by
  have hb : Ideal.ofBits .f32 0xFF800000#32 = ⊥ := by simp [Ideal.ofBits, Ideal.ieee]
  have ht : Ideal.ofBits .f32 0x7F800000#32 = ⊤ := by simp [Ideal.ofBits, Ideal.ieee]
  rw [hb, ht] at h
  refine .of_ne ?_ ?_ <;> rintro rfl <;> simp [Ideal.cmp, IntOp.andi] at h

theorem pre_real (q : FVec Ideal S8x8x16x128 .f32) (k v : FVec Ideal S8x1024x16x128 .f32)
    (h : (Cert.Pre_finite_KernelIdeal.fn (F := Ideal) q k v).1 = (fun _ => 1#1)
      ∧ (Cert.Pre_finite_KernelIdeal.fn (F := Ideal) q k v).2 = (fun _ => 1#1)) :
    (∀ j, IsReal (q j)) ∧ ∀ j, IsReal (k j) :=
  ⟨fun j => real_of_tests _ (congrFun h.1 j), fun j => real_of_tests _ (congrFun h.2 j)⟩

/-- Every key row lies in some device's block. -/
theorem real_of_blk {k : FVec Ideal ReferenceIdeal.S8x4096x16x128 .f32} (h : ∀ c j, IsReal (blk c k j)) (j : ReferenceIdeal.S8x4096x16x128.Idx) :
    IsReal (k j) := by
  obtain ⟨b, n, g, x, rfl⟩ : ∃ (b : Fin 8) (n : Fin 4096) (g : Fin 16) (x : Fin 128), j = ix4 b n g x := ⟨_, _, _, _, eq_ix4 j⟩
  have hn := n.isLt
  have hc : n.val / 1024 < nD := by simp only [nD]; omega
  have hr : row (place ⟨n.val / 1024, hc⟩) ⟨n.val % 1024, Nat.mod_lt _ (by decide)⟩ = n :=
    Fin.ext (show n.val / 1024 % 4 * 1024 + n.val % 1024 = n.val by omega)
  have := h ⟨n.val / 1024, hc⟩ (ix4 b ⟨n.val % 1024, Nat.mod_lt _ (by decide)⟩ g x)
  rwa [blk_at, hr] at this

theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := pre_facts) := fun m ρ m' ρ' hp ha => by
  have D : Dealt m (m' ((0 : Dev ReferenceIdeal.nD).tc.loc ReferenceIdeal.main_arg0)) (m' ((0 : Dev ReferenceIdeal.nD).tc.loc ReferenceIdeal.main_arg1))
      (m' ((0 : Dev ReferenceIdeal.nD).tc.loc ReferenceIdeal.main_arg2)) := ⟨fun c => (ha c).1, fun c => (ha c).2.1, fun c => (ha c).2.2⟩
  have hq := D.q 0 ▸ (pre_real _ _ _ (hp 0)).1
  have hk := real_of_blk fun c => D.k c ▸ (pre_real _ _ _ (hp c)).2
  exact ⟨refO (m' ((0 : Dev ReferenceIdeal.nD).tc.loc ReferenceIdeal.main_arg0)) (m' ((0 : Dev ReferenceIdeal.nD).tc.loc ReferenceIdeal.main_arg1))
      (m' ((0 : Dev ReferenceIdeal.nD).tc.loc ReferenceIdeal.main_arg2)),
    (θ_run Cert.KernelIdeal.defs _ _).mono (fun r h c => ⟨(h.1 c).1.trans (D.out hq hk c), (h.1 c).2⟩)
      (Ring.run_main (F := Ideal) m ρ),
    (θ_run Cert.ReferenceIdeal.defs _ _).mono (fun r h => h 0) (Cert.ReferenceIdeal.Value.run (F := Ideal) m' ρ')⟩

end Cert.Soft

end
-- ==== Proof.lean ====
/- The certificate: the frames of the kernel, of its Ideal reading and of the reference, and that the last two compute the
   same result. -/
module

public import proofs.«01_k».proof.Defs
public import proofs.«01_k».proof.Proof.Frames
public import proofs.«01_k».proof.Proof.Algebraic

@[expose] public section

noncomputable section

namespace Cert.Proof

theorem claim : Cert.Claim := ⟨Cert.Kernel.Gen.facts, Cert.KernelIdeal.Gen.facts, Cert.ReferenceIdeal.Gen.facts,
  Cert.Soft.pre_facts, Cert.Soft.pre_facts_ref,
  Cert.Ring.frame_kernel, Cert.Ring.frame_ideal, fun m ρ _ => Cert.Ring.frame_ideal m ρ trivial,
  Cert.Ring.frame_reference, fun m ρ _ => Cert.Ring.frame_reference m ρ trivial, trivial, Cert.Soft.algebraic⟩

end Cert.Proof

end
